-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x4E6E6B28#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v51_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v51_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v201) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x224x224 : Shape := ⟨4, ![8, 3, 224, 224]⟩
abbrev S2x588x1024 : Shape := ⟨3, ![2, 588, 1024]⟩
abbrev S8x3x16x14x16x14 : Shape := ⟨6, ![8, 3, 16, 14, 16, 14]⟩
abbrev S8x3x14x14x16x16 : Shape := ⟨6, ![8, 3, 14, 14, 16, 16]⟩
abbrev S8x588x16x16 : Shape := ⟨4, ![8, 588, 16, 16]⟩
abbrev S8x588x256 : Shape := ⟨3, ![8, 588, 256]⟩
abbrev S8x256x588 : Shape := ⟨3, ![8, 256, 588]⟩
abbrev S2048x588 : Shape := ⟨2, ![2048, 588]⟩
abbrev S16x16x16x16 : Shape := ⟨4, ![16, 16, 16, 16]⟩
abbrev S_ : Shape := ⟨0, ![]⟩
abbrev S16x16 : Shape := ⟨2, ![16, 16]⟩
abbrev S16x16x1x1 : Shape := ⟨4, ![16, 16, 1, 1]⟩
abbrev S256x256 : Shape := ⟨2, ![256, 256]⟩
abbrev S224x16 : Shape := ⟨2, ![224, 16]⟩
abbrev S224 : Shape := ⟨1, ![224]⟩
abbrev S224x1 : Shape := ⟨2, ![224, 1]⟩
abbrev S256x8 : Shape := ⟨2, ![256, 8]⟩
abbrev S1x588x1024 : Shape := ⟨3, ![1, 588, 1024]⟩
abbrev S2048x1024 : Shape := ⟨2, ![2048, 1024]⟩
abbrev S588x1024 : Shape := ⟨2, ![588, 1024]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1792x1024 : Shape := ⟨2, ![1792, 1024]⟩
abbrev S256x1792 : Shape := ⟨2, ![256, 1792]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩
abbrev S1024x1024 : Shape := ⟨2, ![1024, 1024]⟩
abbrev S768x1024 : Shape := ⟨2, ![768, 1024]⟩
abbrev S256x768 : Shape := ⟨2, ![256, 768]⟩
abbrev S512x1024 : Shape := ⟨2, ![512, 1024]⟩
abbrev S256x512 : Shape := ⟨2, ![256, 512]⟩
abbrev S8x256 : Shape := ⟨2, ![8, 256]⟩
abbrev S8x16x16 : Shape := ⟨3, ![8, 16, 16]⟩
abbrev S8x224x224 : Shape := ⟨3, ![8, 224, 224]⟩
abbrev S8x1 : Shape := ⟨2, ![8, 1]⟩
abbrev S1x16x16 : Shape := ⟨3, ![1, 16, 16]⟩
abbrev S1x224x224 : Shape := ⟨3, ![1, 224, 224]⟩
abbrev S224x224 : Shape := ⟨2, ![224, 224]⟩
abbrev S1 : Shape := ⟨1, ![1]⟩
abbrev S1x1x1 : Shape := ⟨3, ![1, 1, 1]⟩
abbrev S8 : Shape := ⟨1, ![8]⟩

abbrev nBuf : Space → Nat
  | .hbm => 71
  | .vmem => 13
  | .smem => 0
  | _ => 0

abbrev bufTy : (tb : Table) → Fin (tcTables nBuf tb) → BufTy
  | .hbm, ⟨0, _⟩ => ⟨S8x3x224x224, .f32⟩
  | .hbm, ⟨1, _⟩ => ⟨S2x588x1024, .f32⟩
  | .hbm, ⟨2, _⟩ => ⟨S8x3x16x14x16x14, .f32⟩
  | .hbm, ⟨3, _⟩ => ⟨S8x3x14x14x16x16, .f32⟩
  | .hbm, ⟨4, _⟩ => ⟨S8x588x16x16, .f32⟩
  | .hbm, ⟨5, _⟩ => ⟨S8x588x256, .f32⟩
  | .hbm, ⟨6, _⟩ => ⟨S8x256x588, .f32⟩
  | .hbm, ⟨7, _⟩ => ⟨S2048x588, .f32⟩
  | .hbm, ⟨8, _⟩ => ⟨S16x16x16x16, .i32⟩
  | .hbm, ⟨9, _⟩ => ⟨S16x16x16x16, .i32⟩
  | .hbm, ⟨10, _⟩ => ⟨S16x16x16x16, .i32⟩
  | .hbm, ⟨11, _⟩ => ⟨S16x16x16x16, .i32⟩
  | .hbm, ⟨12, _⟩ => ⟨S16x16x16x16, .i32⟩
  | .hbm, ⟨13, _⟩ => ⟨S16x16x16x16, .i32⟩
  | .hbm, ⟨14, _⟩ => ⟨S_, .i32⟩
  | .hbm, ⟨15, _⟩ => ⟨S16x16x16x16, .i32⟩
  | .hbm, ⟨16, _⟩ => ⟨S16x16x16x16, .i1⟩
  | .hbm, ⟨17, _⟩ => ⟨S16x16x16x16, .i32⟩
  | .hbm, ⟨18, _⟩ => ⟨S16x16x16x16, .i32⟩
  | .hbm, ⟨19, _⟩ => ⟨S_, .i32⟩
  | .hbm, ⟨20, _⟩ => ⟨S16x16x16x16, .i32⟩
  | .hbm, ⟨21, _⟩ => ⟨S16x16x16x16, .i1⟩
  | .hbm, ⟨22, _⟩ => ⟨S16x16x16x16, .i1⟩
  | .hbm, ⟨23, _⟩ => ⟨S16x16x16x16, .f32⟩
  | .hbm, ⟨24, _⟩ => ⟨S_, .f32⟩
  | .hbm, ⟨25, _⟩ => ⟨S16x16, .f32⟩
  | .hbm, ⟨26, _⟩ => ⟨S16x16x1x1, .f32⟩
  | .hbm, ⟨27, _⟩ => ⟨S_, .f32⟩
  | .hbm, ⟨28, _⟩ => ⟨S16x16x1x1, .f32⟩
  | .hbm, ⟨29, _⟩ => ⟨S16x16x1x1, .f32⟩
  | .hbm, ⟨30, _⟩ => ⟨S_, .f32⟩
  | .hbm, ⟨31, _⟩ => ⟨S_, .f32⟩
  | .hbm, ⟨32, _⟩ => ⟨S16x16x16x16, .f32⟩
  | .hbm, ⟨33, _⟩ => ⟨S16x16x16x16, .f32⟩
  | .hbm, ⟨34, _⟩ => ⟨S16x16x16x16, .f32⟩
  | .hbm, ⟨35, _⟩ => ⟨S256x256, .f32⟩
  | .hbm, ⟨36, _⟩ => ⟨S224x16, .i32⟩
  | .hbm, ⟨37, _⟩ => ⟨S224x16, .f32⟩
  | .hbm, ⟨38, _⟩ => ⟨S224x16, .i32⟩
  | .hbm, ⟨39, _⟩ => ⟨S224x16, .f32⟩
  | .hbm, ⟨40, _⟩ => ⟨S_, .f32⟩
  | .hbm, ⟨41, _⟩ => ⟨S224x16, .f32⟩
  | .hbm, ⟨42, _⟩ => ⟨S224x16, .f32⟩
  | .hbm, ⟨43, _⟩ => ⟨S_, .f32⟩
  | .hbm, ⟨44, _⟩ => ⟨S224x16, .f32⟩
  | .hbm, ⟨45, _⟩ => ⟨S224x16, .f32⟩
  | .hbm, ⟨46, _⟩ => ⟨S_, .f32⟩
  | .hbm, ⟨47, _⟩ => ⟨S224x16, .f32⟩
  | .hbm, ⟨48, _⟩ => ⟨S224x16, .f32⟩
  | .hbm, ⟨49, _⟩ => ⟨S_, .f32⟩
  | .hbm, ⟨50, _⟩ => ⟨S224x16, .f32⟩
  | .hbm, ⟨51, _⟩ => ⟨S224x16, .f32⟩
  | .hbm, ⟨52, _⟩ => ⟨S224x16, .f32⟩
  | .hbm, ⟨53, _⟩ => ⟨S224x16, .f32⟩
  | .hbm, ⟨54, _⟩ => ⟨S_, .f32⟩
  | .hbm, ⟨55, _⟩ => ⟨S224x16, .f32⟩
  | .hbm, ⟨56, _⟩ => ⟨S224x16, .f32⟩
  | .hbm, ⟨57, _⟩ => ⟨S_, .f32⟩
  | .hbm, ⟨58, _⟩ => ⟨S224x16, .f32⟩
  | .hbm, ⟨59, _⟩ => ⟨S224x16, .f32⟩
  | .hbm, ⟨60, _⟩ => ⟨S_, .f32⟩
  | .hbm, ⟨61, _⟩ => ⟨S224, .f32⟩
  | .hbm, ⟨62, _⟩ => ⟨S224x1, .f32⟩
  | .hbm, ⟨63, _⟩ => ⟨S224x16, .f32⟩
  | .hbm, ⟨64, _⟩ => ⟨S224x16, .f32⟩
  | .hbm, ⟨65, _⟩ => ⟨S256x8, .f32⟩
  | .hbm, ⟨66, _⟩ => ⟨S8x256, .f32⟩
  | .hbm, ⟨67, _⟩ => ⟨S8x16x16, .f32⟩
  | .hbm, ⟨68, _⟩ => ⟨S8x224x224, .f32⟩
  | .hbm, ⟨69, _⟩ => ⟨S8x1, .f32⟩
  | .hbm, ⟨70, _⟩ => ⟨S8, .f32⟩
  | .local _ .vmem, ⟨0, _⟩ => ⟨S2048x588, .f32⟩
  | .local _ .vmem, ⟨1, _⟩ => ⟨S1x588x1024, .f32⟩
  | .local _ .vmem, ⟨2, _⟩ => ⟨S1x588x1024, .f32⟩
  | .local _ .vmem, ⟨3, _⟩ => ⟨S256x256, .f32⟩
  | .local _ .vmem, ⟨4, _⟩ => ⟨S256x8, .f32⟩
  | .local _ .vmem, ⟨5, _⟩ => ⟨S2048x1024, .f32⟩
  | .local _ .vmem, ⟨6, _⟩ => ⟨S2048x1024, .f32⟩
  | .local _ .vmem, ⟨7, _⟩ => ⟨S1x16x16, .f32⟩
  | .local _ .vmem, ⟨8, _⟩ => ⟨S1x16x16, .f32⟩
  | .local _ .vmem, ⟨9, _⟩ => ⟨S224x16, .f32⟩
  | .local _ .vmem, ⟨10, _⟩ => ⟨S1x224x224, .f32⟩
  | .local _ .vmem, ⟨11, _⟩ => ⟨S1x224x224, .f32⟩
  | .local _ .vmem, ⟨12, _⟩ => ⟨S8x1, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v52 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1665 : BitVec 1 := Scalar.cmpi .eq arg0 c0_i32
  let v1666 : BitVec 32 := Scalar.extui v1665
  let c0_i32_509 : BitVec 32 := 0#32
  let v1667 : BitVec 1 := Scalar.cmpi .ne v1666 c0_i32_509
  v1667

def k0_cond2 (i : grid0.Coords) : BitVec 1 :=
  let arg0 : BitVec 32 := BitVec.ofNat 32 (i 0).val
  let c0_i32_510 : BitVec 32 := 0#32
  let v1668 : BitVec 1 := Scalar.cmpi .ne arg0 c0_i32_510
  let v1669 : BitVec 32 := Scalar.extui v1668
  let c0_i32_511 : BitVec 32 := 0#32
  let v1670 : BitVec 1 := Scalar.cmpi .ne v1669 c0_i32_511
  v1670

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x588 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x588x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_9 : BitVec 32 := 0#32
  let v22 : BitVec 1 := Scalar.cmpi .ne v21 c0_i32_9
  v22

def k1_cond2 (i : grid1.Coords) : BitVec 1 :=
  let arg0 : BitVec 32 := BitVec.ofNat 32 (i 0).val
  let c0_i32_10 : BitVec 32 := 0#32
  let v23 : BitVec 1 := Scalar.cmpi .ne arg0 c0_i32_10
  let v24 : BitVec 32 := Scalar.extui v23
  let c0_i32_11 : BitVec 32 := 0#32
  let v25 : BitVec 1 := Scalar.cmpi .ne v24 c0_i32_11
  v25

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x16x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S224x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x224x224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== KernelIdeal.lean ====
variable {F : FTy → Type} [FloatOps F] [Named F]
def κ : String → Option EReal := fun
  | "big" => some ⊤
  | _ => none
-- ==== ReferenceIdeal.lean ====
abbrev S8x3x224x224 : Shape := ⟨4, ![8, 3, 224, 224]⟩
abbrev S2x588x1024 : Shape := ⟨3, ![2, 588, 1024]⟩
abbrev S8x3x16x14x16x14 : Shape := ⟨6, ![8, 3, 16, 14, 16, 14]⟩
abbrev S8x16x16x3x14x14 : Shape := ⟨6, ![8, 16, 16, 3, 14, 14]⟩
abbrev S8x256x588 : Shape := ⟨3, ![8, 256, 588]⟩
abbrev S2x1024x8x256 : Shape := ⟨4, ![2, 1024, 8, 256]⟩
abbrev S2x8x256x1024 : Shape := ⟨4, ![2, 8, 256, 1024]⟩
abbrev S_ : Shape := ⟨0, ![]⟩
abbrev S8x256 : Shape := ⟨2, ![8, 256]⟩
abbrev S16x16x16x1024 : Shape := ⟨4, ![16, 16, 16, 1024]⟩
abbrev S1x16x16x1 : Shape := ⟨4, ![1, 16, 16, 1]⟩
abbrev S2x8x256 : Shape := ⟨3, ![2, 8, 256]⟩
abbrev S2x8x256x8x256 : Shape := ⟨5, ![2, 8, 256, 8, 256]⟩
abbrev S2x8x8x256x256 : Shape := ⟨5, ![2, 8, 8, 256, 256]⟩
abbrev S2x8x1x256x1 : Shape := ⟨5, ![2, 8, 1, 256, 1]⟩
abbrev S2x1x8x1x256 : Shape := ⟨5, ![2, 1, 8, 1, 256]⟩
abbrev S2x8x8x256 : Shape := ⟨4, ![2, 8, 8, 256]⟩
abbrev S8x8 : Shape := ⟨2, ![8, 8]⟩
abbrev S1x8x8x1 : Shape := ⟨4, ![1, 8, 8, 1]⟩
abbrev S2x8x2x256 : Shape := ⟨4, ![2, 8, 2, 256]⟩
abbrev S8x16x16 : Shape := ⟨3, ![8, 16, 16]⟩
abbrev S2 : Shape := ⟨1, ![2]⟩
abbrev S1 : Shape := ⟨1, ![1]⟩
abbrev S224 : Shape := ⟨1, ![224]⟩
abbrev S16 : Shape := ⟨1, ![16]⟩
abbrev S1x224 : Shape := ⟨2, ![1, 224]⟩
abbrev S16x1 : Shape := ⟨2, ![16, 1]⟩
abbrev S16x224 : Shape := ⟨2, ![16, 224]⟩
abbrev S224x8x16 : Shape := ⟨3, ![224, 8, 16]⟩
abbrev S224x8x224 : Shape := ⟨3, ![224, 8, 224]⟩
abbrev S8x224x224 : Shape := ⟨3, ![8, 224, 224]⟩
abbrev S8x50176 : Shape := ⟨2, ![8, 50176]⟩
abbrev S8 : Shape := ⟨1, ![8]⟩

abbrev nBuf : Space → Nat
  | .hbm => 269
  | .vmem => 0
  | .smem => 0
  | _ => 0

abbrev hbmTy0_0 (i : Nat) : BufTy := match i % 128 with
  | 0 => ⟨S8x3x224x224, .f32⟩
  | 1 => ⟨S2x588x1024, .f32⟩
  | 2 => ⟨S8x3x16x14x16x14, .f32⟩
  | 3 => ⟨S8x16x16x3x14x14, .f32⟩
  | 4 => ⟨S8x256x588, .f32⟩
  | 5 => ⟨S2x1024x8x256, .f32⟩
  | 6 => ⟨S2x8x256x1024, .f32⟩
  | 7 => ⟨S_, .f32⟩
  | 8 => ⟨S8x256, .f32⟩
  | 9 => ⟨S16x16x16x1024, .f32⟩
  | 10 => ⟨S_, .f32⟩
  | 11 => ⟨S_, .f32⟩
  | 12 => ⟨S16x16x16x1024, .f32⟩
  | 13 => ⟨S_, .f32⟩
  | 14 => ⟨S1x16x16x1, .f32⟩
  | 15 => ⟨S_, .f32⟩
  | 16 => ⟨S_, .f32⟩
  | 17 => ⟨S1x16x16x1, .f32⟩
  | 18 => ⟨S16x16x16x1024, .f32⟩
  | 19 => ⟨S16x16x16x1024, .f32⟩
  | 20 => ⟨S2x8x256x1024, .f32⟩
  | 21 => ⟨S2x8x256x1024, .f32⟩
  | 22 => ⟨S_, .f32⟩
  | 23 => ⟨S2x8x256, .f32⟩
  | 24 => ⟨S2x8x256x8x256, .f32⟩
  | 25 => ⟨S2x8x8x256x256, .f32⟩
  | 26 => ⟨S2x8x1x256x1, .f32⟩
  | 27 => ⟨S2x1x8x1x256, .f32⟩
  | 28 => ⟨S2x8x8x256x256, .f32⟩
  | 29 => ⟨S2x8x8x256x256, .f32⟩
  | 30 => ⟨S2x8x8x256x256, .f32⟩
  | 31 => ⟨S_, .f32⟩
  | 32 => ⟨S2x8x8x256x256, .f32⟩
  | 33 => ⟨S2x8x8x256x256, .f32⟩
  | 34 => ⟨S2x8x8x256x256, .f32⟩
  | 35 => ⟨S_, .f32⟩
  | 36 => ⟨S2x8x8x256x256, .f32⟩
  | 37 => ⟨S2x8x8x256x256, .f32⟩
  | 38 => ⟨S2x8x8x256x256, .f32⟩
  | 39 => ⟨S_, .f32⟩
  | 40 => ⟨S2x8x8x256, .f32⟩
  | 41 => ⟨S8x8, .i32⟩
  | 42 => ⟨S8x8, .i32⟩
  | 43 => ⟨S_, .i32⟩
  | 44 => ⟨S8x8, .i32⟩
  | 45 => ⟨S8x8, .i32⟩
  | 46 => ⟨S8x8, .i1⟩
  | 47 => ⟨S1x8x8x1, .i1⟩
  | 48 => ⟨S_, .f32⟩
  | 49 => ⟨S2x8x8x256, .i1⟩
  | 50 => ⟨S2x8x8x256, .f32⟩
  | 51 => ⟨S2x8x8x256, .f32⟩
  | 52 => ⟨S2x8x8x256, .f32⟩
  | 53 => ⟨S2x8x2x256, .f32⟩
  | 54 => ⟨S_, .f32⟩
  | 55 => ⟨S2x8x256, .f32⟩
  | 56 => ⟨S_, .f32⟩
  | 57 => ⟨S2x8x256, .f32⟩
  | 58 => ⟨S2x8x256, .f32⟩
  | 59 => ⟨S_, .f32⟩
  | 60 => ⟨S8x256, .f32⟩
  | 61 => ⟨S_, .f32⟩
  | 62 => ⟨S8x256, .f32⟩
  | 63 => ⟨S8x256, .f32⟩
  | 64 => ⟨S8x256, .f32⟩
  | 65 => ⟨S16x16x16x1024, .f32⟩
  | 66 => ⟨S_, .f32⟩
  | 67 => ⟨S_, .f32⟩
  | 68 => ⟨S16x16x16x1024, .f32⟩
  | 69 => ⟨S_, .f32⟩
  | 70 => ⟨S1x16x16x1, .f32⟩
  | 71 => ⟨S_, .f32⟩
  | 72 => ⟨S_, .f32⟩
  | 73 => ⟨S1x16x16x1, .f32⟩
  | 74 => ⟨S16x16x16x1024, .f32⟩
  | 75 => ⟨S16x16x16x1024, .f32⟩
  | 76 => ⟨S2x8x256x1024, .f32⟩
  | 77 => ⟨S2x8x256x1024, .f32⟩
  | 78 => ⟨S_, .f32⟩
  | 79 => ⟨S2x8x256, .f32⟩
  | 80 => ⟨S2x8x256x8x256, .f32⟩
  | 81 => ⟨S2x8x8x256x256, .f32⟩
  | 82 => ⟨S2x8x1x256x1, .f32⟩
  | 83 => ⟨S2x1x8x1x256, .f32⟩
  | 84 => ⟨S2x8x8x256x256, .f32⟩
  | 85 => ⟨S2x8x8x256x256, .f32⟩
  | 86 => ⟨S2x8x8x256x256, .f32⟩
  | 87 => ⟨S_, .f32⟩
  | 88 => ⟨S2x8x8x256x256, .f32⟩
  | 89 => ⟨S2x8x8x256x256, .f32⟩
  | 90 => ⟨S2x8x8x256x256, .f32⟩
  | 91 => ⟨S_, .f32⟩
  | 92 => ⟨S2x8x8x256x256, .f32⟩
  | 93 => ⟨S2x8x8x256x256, .f32⟩
  | 94 => ⟨S2x8x8x256x256, .f32⟩
  | 95 => ⟨S_, .f32⟩
  | 96 => ⟨S2x8x8x256, .f32⟩
  | 97 => ⟨S8x8, .i32⟩
  | 98 => ⟨S8x8, .i32⟩
  | 99 => ⟨S_, .i32⟩
  | 100 => ⟨S8x8, .i32⟩
  | 101 => ⟨S8x8, .i32⟩
  | 102 => ⟨S8x8, .i1⟩
  | 103 => ⟨S1x8x8x1, .i1⟩
  | 104 => ⟨S_, .f32⟩
  | 105 => ⟨S2x8x8x256, .i1⟩
  | 106 => ⟨S2x8x8x256, .f32⟩
  | 107 => ⟨S2x8x8x256, .f32⟩
  | 108 => ⟨S2x8x8x256, .f32⟩
  | 109 => ⟨S2x8x2x256, .f32⟩
  | 110 => ⟨S_, .f32⟩
  | 111 => ⟨S2x8x256, .f32⟩
  | 112 => ⟨S_, .f32⟩
  | 113 => ⟨S2x8x256, .f32⟩
  | 114 => ⟨S2x8x256, .f32⟩
  | 115 => ⟨S_, .f32⟩
  | 116 => ⟨S8x256, .f32⟩
  | 117 => ⟨S_, .f32⟩
  | 118 => ⟨S8x256, .f32⟩
  | 119 => ⟨S8x256, .f32⟩
  | 120 => ⟨S8x256, .f32⟩
  | 121 => ⟨S_, .f32⟩
  | 122 => ⟨S8x256, .f32⟩
  | 123 => ⟨S8x256, .f32⟩
  | 124 => ⟨S8x16x16, .f32⟩
  | 125 => ⟨S_, .f32⟩
  | 126 => ⟨S2, .f32⟩
  | 127 => ⟨S_, .f32⟩
  | _ => ⟨S8x3x224x224, .f32⟩

abbrev hbmTy0_1 (i : Nat) : BufTy := match i % 128 with
  | 0 => ⟨S2, .f32⟩
  | 1 => ⟨S1, .f32⟩
  | 2 => ⟨S_, .f32⟩
  | 3 => ⟨S1, .f32⟩
  | 4 => ⟨S_, .f32⟩
  | 5 => ⟨S_, .f32⟩
  | 6 => ⟨S_, .f32⟩
  | 7 => ⟨S_, .f32⟩
  | 8 => ⟨S_, .f32⟩
  | 9 => ⟨S224, .f32⟩
  | 10 => ⟨S_, .f32⟩
  | 11 => ⟨S224, .f32⟩
  | 12 => ⟨S224, .f32⟩
  | 13 => ⟨S224, .f32⟩
  | 14 => ⟨S224, .f32⟩
  | 15 => ⟨S_, .f32⟩
  | 16 => ⟨S224, .f32⟩
  | 17 => ⟨S224, .f32⟩
  | 18 => ⟨S_, .f32⟩
  | 19 => ⟨S224, .f32⟩
  | 20 => ⟨S224, .f32⟩
  | 21 => ⟨S16, .f32⟩
  | 22 => ⟨S1x224, .f32⟩
  | 23 => ⟨S16x1, .f32⟩
  | 24 => ⟨S16x224, .f32⟩
  | 25 => ⟨S16x224, .f32⟩
  | 26 => ⟨S16x224, .f32⟩
  | 27 => ⟨S16x224, .f32⟩
  | 28 => ⟨S16x224, .f32⟩
  | 29 => ⟨S16x224, .f32⟩
  | 30 => ⟨S16x224, .f32⟩
  | 31 => ⟨S_, .f32⟩
  | 32 => ⟨S16x224, .f32⟩
  | 33 => ⟨S16x224, .f32⟩
  | 34 => ⟨S_, .f32⟩
  | 35 => ⟨S16x224, .f32⟩
  | 36 => ⟨S16x224, .f32⟩
  | 37 => ⟨S_, .f32⟩
  | 38 => ⟨S224, .f32⟩
  | 39 => ⟨S1x224, .f32⟩
  | 40 => ⟨S1x224, .f32⟩
  | 41 => ⟨S_, .f32⟩
  | 42 => ⟨S1x224, .f32⟩
  | 43 => ⟨S1x224, .i1⟩
  | 44 => ⟨S_, .f32⟩
  | 45 => ⟨S1x224, .f32⟩
  | 46 => ⟨S1x224, .i1⟩
  | 47 => ⟨S_, .f32⟩
  | 48 => ⟨S1x224, .f32⟩
  | 49 => ⟨S1x224, .f32⟩
  | 50 => ⟨S16x224, .f32⟩
  | 51 => ⟨S16x224, .f32⟩
  | 52 => ⟨S16x224, .i1⟩
  | 53 => ⟨S_, .f32⟩
  | 54 => ⟨S16x224, .f32⟩
  | 55 => ⟨S16x224, .f32⟩
  | 56 => ⟨S_, .f32⟩
  | 57 => ⟨S224, .f32⟩
  | 58 => ⟨S224, .i1⟩
  | 59 => ⟨S_, .f32⟩
  | 60 => ⟨S224, .f32⟩
  | 61 => ⟨S224, .i1⟩
  | 62 => ⟨S224, .i1⟩
  | 63 => ⟨S1x224, .i1⟩
  | 64 => ⟨S16x224, .i1⟩
  | 65 => ⟨S_, .f32⟩
  | 66 => ⟨S16x224, .f32⟩
  | 67 => ⟨S16x224, .f32⟩
  | 68 => ⟨S1, .f32⟩
  | 69 => ⟨S_, .f32⟩
  | 70 => ⟨S1, .f32⟩
  | 71 => ⟨S_, .f32⟩
  | 72 => ⟨S_, .f32⟩
  | 73 => ⟨S_, .f32⟩
  | 74 => ⟨S_, .f32⟩
  | 75 => ⟨S_, .f32⟩
  | 76 => ⟨S224, .f32⟩
  | 77 => ⟨S_, .f32⟩
  | 78 => ⟨S224, .f32⟩
  | 79 => ⟨S224, .f32⟩
  | 80 => ⟨S224, .f32⟩
  | 81 => ⟨S224, .f32⟩
  | 82 => ⟨S_, .f32⟩
  | 83 => ⟨S224, .f32⟩
  | 84 => ⟨S224, .f32⟩
  | 85 => ⟨S_, .f32⟩
  | 86 => ⟨S224, .f32⟩
  | 87 => ⟨S224, .f32⟩
  | 88 => ⟨S16, .f32⟩
  | 89 => ⟨S1x224, .f32⟩
  | 90 => ⟨S16x1, .f32⟩
  | 91 => ⟨S16x224, .f32⟩
  | 92 => ⟨S16x224, .f32⟩
  | 93 => ⟨S16x224, .f32⟩
  | 94 => ⟨S16x224, .f32⟩
  | 95 => ⟨S16x224, .f32⟩
  | 96 => ⟨S16x224, .f32⟩
  | 97 => ⟨S16x224, .f32⟩
  | 98 => ⟨S_, .f32⟩
  | 99 => ⟨S16x224, .f32⟩
  | 100 => ⟨S16x224, .f32⟩
  | 101 => ⟨S_, .f32⟩
  | 102 => ⟨S16x224, .f32⟩
  | 103 => ⟨S16x224, .f32⟩
  | 104 => ⟨S_, .f32⟩
  | 105 => ⟨S224, .f32⟩
  | 106 => ⟨S1x224, .f32⟩
  | 107 => ⟨S1x224, .f32⟩
  | 108 => ⟨S_, .f32⟩
  | 109 => ⟨S1x224, .f32⟩
  | 110 => ⟨S1x224, .i1⟩
  | 111 => ⟨S_, .f32⟩
  | 112 => ⟨S1x224, .f32⟩
  | 113 => ⟨S1x224, .i1⟩
  | 114 => ⟨S_, .f32⟩
  | 115 => ⟨S1x224, .f32⟩
  | 116 => ⟨S1x224, .f32⟩
  | 117 => ⟨S16x224, .f32⟩
  | 118 => ⟨S16x224, .f32⟩
  | 119 => ⟨S16x224, .i1⟩
  | 120 => ⟨S_, .f32⟩
  | 121 => ⟨S16x224, .f32⟩
  | 122 => ⟨S16x224, .f32⟩
  | 123 => ⟨S_, .f32⟩
  | 124 => ⟨S224, .f32⟩
  | 125 => ⟨S224, .i1⟩
  | 126 => ⟨S_, .f32⟩
  | 127 => ⟨S224, .f32⟩
  | _ => ⟨S8x3x224x224, .f32⟩

abbrev hbmTy0_2 (i : Nat) : BufTy := match i % 128 with
  | 0 => ⟨S224, .i1⟩
  | 1 => ⟨S224, .i1⟩
  | 2 => ⟨S1x224, .i1⟩
  | 3 => ⟨S16x224, .i1⟩
  | 4 => ⟨S_, .f32⟩
  | 5 => ⟨S16x224, .f32⟩
  | 6 => ⟨S16x224, .f32⟩
  | 7 => ⟨S224x8x16, .f32⟩
  | 8 => ⟨S224x8x224, .f32⟩
  | 9 => ⟨S8x224x224, .f32⟩
  | 10 => ⟨S8x50176, .f32⟩
  | 11 => ⟨S_, .f32⟩
  | 12 => ⟨S8, .f32⟩
  | _ => ⟨S8x3x224x224, .f32⟩

abbrev hbmTy (i : Nat) : BufTy := match i / 128 with
  | 0 => hbmTy0_0 i
  | 1 => hbmTy0_1 i
  | 2 => hbmTy0_2 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_call0_v0 : Ref sig .tc := ⟨.hbm, 49, rfl⟩
abbrev main_call0_v1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_18 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_19 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_20 : Ref sig .tc := ⟨.hbm, 104, rfl⟩
abbrev main_call2_v0 : Ref sig .tc := ⟨.hbm, 105, rfl⟩
abbrev main_call2_v1 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_21 : Ref sig .tc := ⟨.hbm, 110, rfl⟩
abbrev main_v81 : Ref sig .tc := ⟨.hbm, 111, rfl⟩
abbrev main_cst_22 : Ref sig .tc := ⟨.hbm, 112, rfl⟩
abbrev main_v82 : Ref sig .tc := ⟨.hbm, 113, rfl⟩
abbrev main_v83 : Ref sig .tc := ⟨.hbm, 114, rfl⟩
abbrev main_cst_23 : Ref sig .tc := ⟨.hbm, 115, rfl⟩
abbrev main_v84 : Ref sig .tc := ⟨.hbm, 116, rfl⟩
abbrev main_cst_24 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_25 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_26 : Ref sig .tc := ⟨.hbm, 125, rfl⟩
abbrev main_v91 : Ref sig .tc := ⟨.hbm, 126, rfl⟩
abbrev main_cst_27 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_28 : Ref sig .tc := ⟨.hbm, 133, rfl⟩
abbrev main_v97 : Ref sig .tc := ⟨.hbm, 134, rfl⟩
abbrev main_cst_29 : Ref sig .tc := ⟨.hbm, 135, rfl⟩
abbrev main_v98 : Ref sig .tc := ⟨.hbm, 136, rfl⟩
abbrev main_v99 : Ref sig .tc := ⟨.hbm, 137, rfl⟩
abbrev main_cst_30 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_31 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_32 : Ref sig .tc := ⟨.hbm, 159, rfl⟩
abbrev main_v119 : Ref sig .tc := ⟨.hbm, 160, rfl⟩
abbrev main_v120 : Ref sig .tc := ⟨.hbm, 161, rfl⟩
abbrev main_cst_33 : Ref sig .tc := ⟨.hbm, 162, rfl⟩
abbrev main_v121 : Ref sig .tc := ⟨.hbm, 163, rfl⟩
abbrev main_v122 : Ref sig .tc := ⟨.hbm, 164, rfl⟩
abbrev main_cst_34 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_35 : Ref sig .tc := ⟨.hbm, 169, rfl⟩
abbrev main_v126 : Ref sig .tc := ⟨.hbm, 170, rfl⟩
abbrev main_v127 : Ref sig .tc := ⟨.hbm, 171, rfl⟩
abbrev main_cst_36 : Ref sig .tc := ⟨.hbm, 172, rfl⟩
abbrev main_v128 : Ref sig .tc := ⟨.hbm, 173, rfl⟩
abbrev main_v129 : Ref sig .tc := ⟨.hbm, 174, rfl⟩
abbrev main_cst_37 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_38 : Ref sig .tc := ⟨.hbm, 181, rfl⟩
abbrev main_v135 : Ref sig .tc := ⟨.hbm, 182, rfl⟩
abbrev main_v136 : Ref sig .tc := ⟨.hbm, 183, rfl⟩
abbrev main_cst_39 : Ref sig .tc := ⟨.hbm, 184, rfl⟩
abbrev main_v137 : Ref sig .tc := ⟨.hbm, 185, rfl⟩
abbrev main_v138 : Ref sig .tc := ⟨.hbm, 186, rfl⟩
abbrev main_cst_40 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_41 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_42 : Ref sig .tc := ⟨.hbm, 200, rfl⟩
abbrev main_v150 : Ref sig .tc := ⟨.hbm, 201, rfl⟩
abbrev main_cst_43 : Ref sig .tc := ⟨.hbm, 202, rfl⟩
abbrev main_v151 : Ref sig .tc := ⟨.hbm, 203, rfl⟩
abbrev main_v152 : Ref sig .tc := ⟨.hbm, 204, rfl⟩
abbrev main_cst_44 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_45 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_46 : Ref sig .tc := ⟨.hbm, 226, rfl⟩
abbrev main_v172 : Ref sig .tc := ⟨.hbm, 227, rfl⟩
abbrev main_v173 : Ref sig .tc := ⟨.hbm, 228, rfl⟩
abbrev main_cst_47 : Ref sig .tc := ⟨.hbm, 229, rfl⟩
abbrev main_v174 : Ref sig .tc := ⟨.hbm, 230, rfl⟩
abbrev main_v175 : Ref sig .tc := ⟨.hbm, 231, rfl⟩
abbrev main_cst_48 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_cst_49 : Ref sig .tc := ⟨.hbm, 236, rfl⟩
abbrev main_v179 : Ref sig .tc := ⟨.hbm, 237, rfl⟩
abbrev main_v180 : Ref sig .tc := ⟨.hbm, 238, rfl⟩
abbrev main_cst_50 : Ref sig .tc := ⟨.hbm, 239, rfl⟩
abbrev main_v181 : Ref sig .tc := ⟨.hbm, 240, rfl⟩
abbrev main_v182 : Ref sig .tc := ⟨.hbm, 241, rfl⟩
abbrev main_cst_51 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_52 : Ref sig .tc := ⟨.hbm, 248, rfl⟩
abbrev main_v188 : Ref sig .tc := ⟨.hbm, 249, rfl⟩
abbrev main_v189 : Ref sig .tc := ⟨.hbm, 250, rfl⟩
abbrev main_cst_53 : Ref sig .tc := ⟨.hbm, 251, rfl⟩
abbrev main_v190 : Ref sig .tc := ⟨.hbm, 252, rfl⟩
abbrev main_v191 : Ref sig .tc := ⟨.hbm, 253, rfl⟩
abbrev main_cst_54 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_55 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_cst_56 : Ref sig .tc := ⟨.hbm, 267, rfl⟩
abbrev main_v203 : Ref sig .tc := ⟨.hbm, 268, rfl⟩

abbrev nD : Nat := 1
abbrev τ : Topo := Topo.v7x

variable {F : FTy → Type} [FloatOps F]
-- ==== Proof.IRegion0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first call of the program: its body run from any entry contents. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the buffers when the call is entered
variable (V : (c : Dev nD) → (b : Ref sig .tc) → Buf (Elt F) ((c : Thread nD τ).loc b))

/-- The block of window `w` at point `t`, read off the contents `V` of its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of input window 0 holds that window's block at each point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The buffer of input window 1 holds that window's block at each point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The buffer of input window 2 holds that window's block at each point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The condition of branch 0 of the body, as a function of the grid point. -/
abbrev cond0_0 (i : grid0.Coords) : Prop := k0_cond1 i = 1#1
/-- Branch 0 is taken exactly at these points. -/
theorem hcond0_0 : ∀ t : Fin cfg0.N, cond0_0 (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [cond0_0, k0_cond1, e0]
    word_cmp
   : ∀ t : Fin grid0.N, cond0_0 (grid0.coords t) ↔ t.val % 2 = 0)

/-- The condition of branch 1 of the body, as a function of the grid point. -/
abbrev cond0_1 (i : grid0.Coords) : Prop := k0_cond2 i = 1#1
/-- Branch 1 is taken exactly at these points. -/
theorem hcond0_1 : ∀ t : Fin cfg0.N, cond0_1 (grid0.coords t) ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [cond0_1, k0_cond2, e0]
    word_cmp
   : ∀ t : Fin grid0.N, cond0_1 (grid0.coords t) ↔ t.val % 2 = 1)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Whether nothing has been stored in the accumulator window yet, position by position. -/
def freshTab0_3 : ℕ → Bool
  | 0 => true
  | n + 1 => (0x2 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
theorem liveAt0_3_A : ∀ t : Fin cfg0.N, cond0_0 (grid0.coords t) → ¬cond0_1 (grid0.coords t) → cfg0.idle 3 (grid0.coords t) = false := by decide +kernel
theorem liveAt0_3_B : ∀ t : Fin cfg0.N, ¬cond0_0 (grid0.coords t) → cond0_1 (grid0.coords t) → cfg0.idle 3 (grid0.coords t) = false := by decide +kernel
theorem notFresh0_3_B : ∀ t : Fin cfg0.N, ¬cond0_0 (grid0.coords t) → cond0_1 (grid0.coords t) → cfg0.fresh 3 t.val = false := by
  intro t; rw [fresh0_3_eq t]; revert t; decide +kernel

abbrev VO0_3 : View sig .tc .vmem S256x8 .f32 := (Memref.whole cc0_stg3_0 : Memref sig .tc .vmem S256x8 .f32).view
abbrev ms0_0 (t : Fin cfg0.N) : Memref sig .tc .vmem S2048x588 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x588x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x8 .f32 := win0_3.stage (cfg0.slots t 3)
abbrev hs0_3 (t : Fin cfg0.N) : (ms0_3 t).IsWhole := hstage0_3 ((cfg0.slots t 3).cast nbuf0_3)
abbrev scM0_0 : Memref sig .tc .vmem S2048x1024 .f32 := Memref.whole cc0_scratch0
abbrev scM0_1 : Memref sig .tc .vmem S2048x1024 .f32 := Memref.whole cc0_scratch1

/-- The scoped buffers outside the windows, the two scratch buffers named. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f)) ∗ (∃ r, prngReg c r)) := by
  unfold Pipeline.ΦA; rw [scopedRest0_eq]; simp only [scM0_0, scM0_1, owns_whole]; try rfl

set_option maxHeartbeats 1236000 in
/-- The body run at a first point: what it stores in each output, with the proof that it runs to the end. -/
noncomputable def kernelRun0_A (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x588 .f32) (x1 : Vec F S1x588x1024 .f32) (x2 : Vec F S256x256 .f32) :
    Σ' (L3 : List (View.Piece (Elt F) S256x8 .f32)), Σ' (LT0 : List (View.Piece (Elt F) S2048x1024 .f32)), { LT1 : List (View.Piece (Elt F) S2048x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0) ∗ (∃ f, arg6.view.loc (c : Thread nD τ) ↦[arg6.view.set]{fullShare} arg6.view.writes (Elt F) f LT1)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

set_option maxHeartbeats 1240000 in
/-- The body run at a later point, the accumulator at the contents `xo3`: what it stores, with the proof that it runs to the end. -/
noncomputable def kernelRun0_B (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x588 .f32) (x1 : Vec F S1x588x1024 .f32) (x2 : Vec F S256x256 .f32) (xo3 : Vec F S256x8 .f32) :
    Σ' (L3 : List (View.Piece (Elt F) S256x8 .f32)), Σ' (LT0 : List (View.Piece (Elt F) S2048x1024 .f32)), { LT1 : List (View.Piece (Elt F) S2048x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0) ∗ (∃ f, arg6.view.loc (c : Thread nD τ) ↦[arg6.view.set]{fullShare} arg6.view.writes (Elt F) f LT1)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

/-- The stores of case A into output 3 fill its block. -/
theorem cover0_A_3 (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x588 .f32) (x1 : Vec F S1x588x1024 .f32) (x2 : Vec F S256x256 .f32) (y : S256x8.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S256x8.size (by sl_kernel_rfl) y

/-- What case A leaves in the buffer of output 3. -/
def out0_A_3 (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x588 .f32) (x1 : Vec F S1x588x1024 .f32) (x2 : Vec F S256x256 .f32) : Vec F S256x8 .f32 :=
  VO0_3.read (Elt F) (VO0_3.writes (Elt F) VO0_3.junk (kernelRun0_A c i arg1 harg1 arg2 harg2 arg3 harg3 arg4 harg4 arg5 harg5 arg6 harg6 hc0 hc1 x0 x1 x2).1)

/-- The stores of case B into output 3 fill its block. -/
theorem cover0_B_3 (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x588 .f32) (x1 : Vec F S1x588x1024 .f32) (x2 : Vec F S256x256 .f32) (xo3 : Vec F S256x8 .f32) (y : S256x8.Idx) :
    ∃ pc ∈ (kernelRun0_B c i arg1 harg1 arg2 harg2 arg3 harg3 arg4 harg4 arg5 harg5 arg6 harg6 hc0 hc1 x0 x1 x2 xo3).1, y ∈ pc.1.set :=
  View.cover_of_tiledL (kernelRun0_B c i arg1 harg1 arg2 harg2 arg3 harg3 arg4 harg4 arg5 harg5 arg6 harg6 hc0 hc1 x0 x1 x2 xo3).1 S256x8.size (by sl_kernel_rfl) y

/-- What case B leaves in the buffer of output 3. -/
def out0_B_3 (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x588 .f32) (x1 : Vec F S1x588x1024 .f32) (x2 : Vec F S256x256 .f32) (xo3 : Vec F S256x8 .f32) : Vec F S256x8 .f32 :=
  VO0_3.read (Elt F) (VO0_3.writes (Elt F) VO0_3.junk (kernelRun0_B c i arg1 harg1 arg2 harg2 arg3 harg3 arg4 harg4 arg5 harg5 arg6 harg6 hc0 hc1 x0 x1 x2 xo3).1)

/-- What the output buffers hold after each point, the accumulator carried from point to point. -/
def outsAt0 (c : Dev nD) : (n : ℕ) → n < cfg0.N → Vec F S256x8 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩)
  | n + 1, hn =>
    if h0 : (n + 1) % 2 = 0 then
      if h1 : (n + 1) % 2 = 1 then
        False.elim (by have hN : n + 1 < 2 := lt_of_lt_of_eq hn (show cfg0.N = 2 from N_0); omega)
      else
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)
    else
      if h1 : (n + 1) % 2 = 1 then
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn))
      else
        False.elim (by have hN : n + 1 < 2 := lt_of_lt_of_eq hn (show cfg0.N = 2 from N_0); omega)

theorem outsAt0_A (c : Dev nD) (t : Fin cfg0.N) (h0 : t.val % 2 = 0) (h1 : ¬t.val % 2 = 1) :
    outsAt0 V c t.val t.isLt = out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : t.val % 2 = 1) :
    outsAt0 V c t.val t.isLt = out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of call 0 from the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The accumulator keeps its contents where the body leaves it alone. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 2 := lt_of_lt_of_eq t.isLt (show cfg0.N = 2 from N_0)
  rw [after0_3, after0_3]
  by_cases h0 : t.val % 2 = 0
  · by_cases h1 : t.val % 2 = 1
    · exfalso; omega
    · rw [liveAt0_3_A t ((hcond0_0 t).mpr h0) (fun h => h1 ((hcond0_1 t).mp h))] at hi
      exact absurd hi Bool.false_ne_true
  · by_cases h1 : t.val % 2 = 1
    · rw [liveAt0_3_B t (fun h => h0 ((hcond0_0 t).mp h)) ((hcond0_1 t).mpr h1)] at hi
      exact absurd hi Bool.false_ne_true
    · exfalso; omega
/-- At a later point the accumulator holds what the point before left. -/
theorem before0_3_B (c : Dev nD) (t : Fin cfg0.N) (h0 : ¬t.val % 2 = 0) (h1 : t.val % 2 = 1) (d) :
    (dat0 V c).before 3 t d = (outsAt0 V c (t.val - 1) (Nat.lt_of_le_of_lt (Nat.sub_le _ _) t.isLt)) := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: it takes the buffers at their contents and leaves them as the proof data say. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).Φ t.castSucc = Pipeline.ΦA spec0 c from rfl, PhiA0_eq]
  have hN : t.val < 2 := lt_of_lt_of_eq t.isLt (show cfg0.N = 2 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [outsAt0_A V c t h0 h1]
      unfold out0_A_3
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%fT0, HS0⟩, ⟨%fT1, HS1⟩⟩
      isplitl [HS0 HS1 HR Hg]
      · isplitl [HS0 HS1 HR]
        · isplitl [HS0]
          · iexists _; unfold owns; iexists _; isplitr
            swap; · iexact HS0
            ipureintro; rfl
          isplitl [HS1]
          · iexists _; unfold owns; iexists _; isplitr
            swap; · iexact HS1
            ipureintro; rfl
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _)
  · by_cases h1 : t.val % 2 = 1
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_3
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, ⟨%e3, H3⟩, ⟨%fT0, HS0⟩, ⟨%fT1, HS1⟩⟩
      isplitl [HS0 HS1 HR Hg]
      · isplitl [HS0 HS1 HR]
        · isplitl [HS0]
          · iexists _; unfold owns; iexists _; isplitr
            swap; · iexact HS0
            ipureintro; rfl
          isplitl [HS1]
          · iexists _; unfold owns; iexists _; isplitr
            swap; · iexact HS1
            ipureintro; rfl
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

/-- The obligation of the body at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.IRegion1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second call of the program: its body run from any entry contents. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the buffers when the call is entered
variable (V : (c : Dev nD) → (b : Ref sig .tc) → Buf (Elt F) ((c : Thread nD τ).loc b))

/-- The block of window `w` at point `t`, read off the contents `V` of its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of input window 0 holds that window's block at each point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The buffer of input window 1 holds that window's block at each point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The condition of branch 0 of the body, as a function of the grid point. -/
abbrev cond1_0 (i : grid1.Coords) : Prop := k1_cond1 i = 1#1
/-- Branch 0 is taken exactly at these points. -/
theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, k1_cond1, e0]
    word_cmp
   : ∀ t : Fin grid1.N, cond1_0 (grid1.coords t) ↔ t.val % 8 = 0)

/-- The condition of branch 1 of the body, as a function of the grid point. -/
abbrev cond1_1 (i : grid1.Coords) : Prop := k1_cond2 i = 1#1
/-- Branch 1 is taken exactly at these points. -/
theorem hcond1_1 : ∀ t : Fin cfg1.N, cond1_1 (grid1.coords t) ↔ 1 ≤ t.val :=
  (fun t => by
    have ht : t.val < 8 := Nat.lt_of_lt_of_eq t.isLt N_1
    have e0 : (grid1.coords t 0).val = t.val / 1 % 8 := Pipeline.Grid.coords_val t 0 (by decide) rfl
    simp only [cond1_1, k1_cond2, e0]
    word_cmp
   : ∀ t : Fin grid1.N, cond1_1 (grid1.coords t) ↔ 1 ≤ t.val)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Whether nothing has been stored in the accumulator window yet, position by position. -/
def freshTab1_3 : ℕ → Bool
  | 0 => true
  | n + 1 => (0x80 : ℕ).testBit n
theorem freshTab1_3_step : ∀ t : Fin cfg1.N,
    freshTab1_3 (t.val + 1) = ((cfg1.win 3).flush t || (cfg1.idle 3 (cfg1.grid.coords t) && freshTab1_3 t.val)) := by decide +kernel
theorem fresh1_3_eq (t : Fin cfg1.N) : cfg1.fresh 3 t.val = freshTab1_3 t.val :=
  Pipeline.Cfg.fresh_tab cfg1 3 freshTab1_3 rfl freshTab1_3_step t.val (Nat.le_of_lt t.isLt)
theorem liveAt1_3_A : ∀ t : Fin cfg1.N, cond1_0 (grid1.coords t) → ¬cond1_1 (grid1.coords t) → cfg1.idle 3 (grid1.coords t) = false := by decide +kernel
theorem liveAt1_3_B : ∀ t : Fin cfg1.N, ¬cond1_0 (grid1.coords t) → cond1_1 (grid1.coords t) → cfg1.idle 3 (grid1.coords t) = false := by decide +kernel
theorem notFresh1_3_B : ∀ t : Fin cfg1.N, ¬cond1_0 (grid1.coords t) → cond1_1 (grid1.coords t) → cfg1.fresh 3 t.val = false := by
  intro t; rw [fresh1_3_eq t]; revert t; decide +kernel

abbrev VO1_2 : View sig .tc .vmem S1x224x224 .f32 := (Memref.whole cc1_stg2_0 : Memref sig .tc .vmem S1x224x224 .f32).view
abbrev VO1_3 : View sig .tc .vmem S8x1 .f32 := (Memref.whole cc1_stg3_0 : Memref sig .tc .vmem S8x1 .f32).view
abbrev ms1_0 (t : Fin cfg1.N) : Memref sig .tc .vmem S1x16x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S224x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x224x224 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x1 .f32 := win1_3.stage (cfg1.slots t 3)
abbrev hs1_3 (t : Fin cfg1.N) : (ms1_3 t).IsWhole := hstage1_3 ((cfg1.slots t 3).cast nbuf1_3)

set_option maxHeartbeats 1000000 in
/-- The body run at a first point: what it stores in each output, with the proof that it runs to the end. -/
noncomputable def kernelRun1_A (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : cond1_0 i) (hc1 : ¬cond1_1 i)
    (x0 : Vec F S1x16x16 .f32) (x1 : Vec F S224x16 .f32) :
    Σ' (L2 : List (View.Piece (Elt F) S1x224x224 .f32)), { L3 : List (View.Piece (Elt F) S8x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__resize_kernel i arg1 harg1 arg2 harg2 arg3 harg3 arg4 harg4) K } := by
  refine ⟨?_, ?_, fun E K => ?run⟩
  case run =>
    simp only [cc1__resize_kernel_eq_skeleton]; unfold cc1__resize_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

set_option maxHeartbeats 1000000 in
/-- The body run at a later point, the accumulator at the contents `xo3`: what it stores, with the proof that it runs to the end. -/
noncomputable def kernelRun1_B (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : ¬cond1_0 i) (hc1 : cond1_1 i)
    (x0 : Vec F S1x16x16 .f32) (x1 : Vec F S224x16 .f32) (xo3 : Vec F S8x1 .f32) :
    Σ' (L2 : List (View.Piece (Elt F) S1x224x224 .f32)), { L3 : List (View.Piece (Elt F) S8x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__resize_kernel i arg1 harg1 arg2 harg2 arg3 harg3 arg4 harg4) K } := by
  refine ⟨?_, ?_, fun E K => ?run⟩
  case run =>
    simp only [cc1__resize_kernel_eq_skeleton]; unfold cc1__resize_kernel_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- The stores of case A into output 2 fill its block. -/
theorem cover1_A_2 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : cond1_0 i) (hc1 : ¬cond1_1 i)
    (x0 : Vec F S1x16x16 .f32) (x1 : Vec F S224x16 .f32) (y : S1x224x224.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S1x224x224.size (by sl_kernel_rfl) y

/-- What case A leaves in the buffer of output 2. -/
def out1_A_2 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : cond1_0 i) (hc1 : ¬cond1_1 i)
    (x0 : Vec F S1x16x16 .f32) (x1 : Vec F S224x16 .f32) : Vec F S1x224x224 .f32 :=
  VO1_2.read (Elt F) (VO1_2.writes (Elt F) VO1_2.junk (kernelRun1_A c i arg1 harg1 arg2 harg2 arg3 harg3 arg4 harg4 hc0 hc1 x0 x1).1)

/-- The stores of case A into output 3 fill its block. -/
theorem cover1_A_3 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : cond1_0 i) (hc1 : ¬cond1_1 i)
    (x0 : Vec F S1x16x16 .f32) (x1 : Vec F S224x16 .f32) (y : S8x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S8x1.size (by sl_kernel_rfl) y

/-- What case A leaves in the buffer of output 3. -/
def out1_A_3 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : cond1_0 i) (hc1 : ¬cond1_1 i)
    (x0 : Vec F S1x16x16 .f32) (x1 : Vec F S224x16 .f32) : Vec F S8x1 .f32 :=
  VO1_3.read (Elt F) (VO1_3.writes (Elt F) VO1_3.junk (kernelRun1_A c i arg1 harg1 arg2 harg2 arg3 harg3 arg4 harg4 hc0 hc1 x0 x1).2.1)

/-- The stores of case B into output 2 fill its block. -/
theorem cover1_B_2 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : ¬cond1_0 i) (hc1 : cond1_1 i)
    (x0 : Vec F S1x16x16 .f32) (x1 : Vec F S224x16 .f32) (xo3 : Vec F S8x1 .f32) (y : S1x224x224.Idx) :
    ∃ pc ∈ (kernelRun1_B c i arg1 harg1 arg2 harg2 arg3 harg3 arg4 harg4 hc0 hc1 x0 x1 xo3).1, y ∈ pc.1.set :=
  View.cover_of_tiledL (kernelRun1_B c i arg1 harg1 arg2 harg2 arg3 harg3 arg4 harg4 hc0 hc1 x0 x1 xo3).1 S1x224x224.size (by sl_kernel_rfl) y

/-- What case B leaves in the buffer of output 2. -/
def out1_B_2 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : ¬cond1_0 i) (hc1 : cond1_1 i)
    (x0 : Vec F S1x16x16 .f32) (x1 : Vec F S224x16 .f32) (xo3 : Vec F S8x1 .f32) : Vec F S1x224x224 .f32 :=
  VO1_2.read (Elt F) (VO1_2.writes (Elt F) VO1_2.junk (kernelRun1_B c i arg1 harg1 arg2 harg2 arg3 harg3 arg4 harg4 hc0 hc1 x0 x1 xo3).1)

/-- The stores of case B into output 3 fill its block. -/
theorem cover1_B_3 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : ¬cond1_0 i) (hc1 : cond1_1 i)
    (x0 : Vec F S1x16x16 .f32) (x1 : Vec F S224x16 .f32) (xo3 : Vec F S8x1 .f32) (y : S8x1.Idx) :
    ∃ pc ∈ (kernelRun1_B c i arg1 harg1 arg2 harg2 arg3 harg3 arg4 harg4 hc0 hc1 x0 x1 xo3).2.1, y ∈ pc.1.set :=
  View.cover_of_tiledL (kernelRun1_B c i arg1 harg1 arg2 harg2 arg3 harg3 arg4 harg4 hc0 hc1 x0 x1 xo3).2.1 S8x1.size (by sl_kernel_rfl) y

/-- What case B leaves in the buffer of output 3. -/
def out1_B_3 (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : ¬cond1_0 i) (hc1 : cond1_1 i)
    (x0 : Vec F S1x16x16 .f32) (x1 : Vec F S224x16 .f32) (xo3 : Vec F S8x1 .f32) : Vec F S8x1 .f32 :=
  VO1_3.read (Elt F) (VO1_3.writes (Elt F) VO1_3.junk (kernelRun1_B c i arg1 harg1 arg2 harg2 arg3 harg3 arg4 harg4 hc0 hc1 x0 x1 xo3).2.1)

/-- What the output buffers hold after each point, the accumulator carried from point to point. -/
def outsAt1 (c : Dev nD) : (n : ℕ) → n < cfg1.N → Vec F S1x224x224 .f32 × Vec F S8x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : 1 ≤ (n + 1) then
        False.elim (by have hN : n + 1 < 8 := lt_of_lt_of_eq hn (show cfg1.N = 8 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : 1 ≤ (n + 1) then
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        False.elim (by have hN : n + 1 < 8 := lt_of_lt_of_eq hn (show cfg1.N = 8 from N_1); omega)

theorem outsAt1_A (c : Dev nD) (t : Fin cfg1.N) (h0 : t.val % 8 = 0) (h1 : ¬1 ≤ t.val) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : 1 ≤ t.val) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (outsAt1 V c (t.val - 1) (Nat.lt_of_le_of_lt (Nat.sub_le _ _) t.isLt)).2, out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The proof data of call 1 from the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The accumulator keeps its contents where the body leaves it alone. -/
theorem hcarry1_3 (c : Dev nD) : ∀ (t : Fin cfg1.N) (_ : t.val ≠ 0), cfg1.idle 3 (grid1.coords t) = true → cfg1.fresh 3 t.val = false →
    (dat1 V c).after 3 t = (dat1 V c).after 3 ⟨t.val - 1, by omega⟩ := by
  intro t _ hi _
  have hN : t.val < 8 := lt_of_lt_of_eq t.isLt (show cfg1.N = 8 from N_1)
  rw [after1_3, after1_3]
  by_cases h0 : t.val % 8 = 0
  · by_cases h1 : 1 ≤ t.val
    · exfalso; omega
    · rw [liveAt1_3_A t ((hcond1_0 t).mpr h0) (fun h => h1 ((hcond1_1 t).mp h))] at hi
      exact absurd hi Bool.false_ne_true
  · by_cases h1 : 1 ≤ t.val
    · rw [liveAt1_3_B t (fun h => h0 ((hcond1_0 t).mp h)) ((hcond1_1 t).mpr h1)] at hi
      exact absurd hi Bool.false_ne_true
    · exfalso; omega
/-- At a later point the accumulator holds what the point before left. -/
theorem before1_3_B (c : Dev nD) (t : Fin cfg1.N) (h0 : ¬t.val % 8 = 0) (h1 : 1 ≤ t.val) (d) :
    (dat1 V c).before 3 t d = (outsAt1 V c (t.val - 1) (Nat.lt_of_le_of_lt (Nat.sub_le _ _) t.isLt)).2 := by
  rw [Dat.before_out_traj _ 3 rfl (fun _ _ => rfl) (hcarry1_3 V c) t.val t rfl d,
    if_neg (by rw [notFresh1_3_B t (fun h => h0 ((hcond1_0 t).mp h)) ((hcond1_1 t).mpr h1)]; exact Bool.false_ne_true)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 800000 in
/-- The body at any point: it takes the buffers at their contents and leaves them as the proof data say. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  have hN : t.val < 8 := lt_of_lt_of_eq t.isLt (show cfg1.N = 8 from N_1)
  by_cases h0 : t.val % 8 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_A t ((hcond1_0 t).mpr h0) (fun h => h1 ((hcond1_1 t).mp h))], after1_3]
      rw [outsAt1_A V c t h0 h1]
      unfold out1_A_2 out1_A_3; (try dsimp only)
      iintro ⟨HΦ, Ho, ⟨%d0, H0⟩, ⟨%d1, H1⟩, ⟨%d2, H2⟩, ⟨%d3, H3⟩⟩
      iapply ((kernelRun1_A c (grid1.coords t) _ _ _ _ _ _ _ _ ((hcond1_0 t).mpr h0) (fun h => h1 ((hcond1_1 t).mp h)) (iblk1 V c 0 t) (iblk1 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_A_2 c _ _ _ _ _ _ _ _ _ _ _ _ _)
      unfold owns; iexists _; isplitr
      swap; · iexact H3
      ipureintro; exact View.read_writes_of_cover _ _ _ _ _ (cover1_A_3 c _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
      rw [outsAt1_B V c t h0 h1]
      simp only [before1_3_B V c t h0 h1]
      unfold out1_B_2 out1_B_3; (try dsimp only)
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_B_2 c _ _ _ _ _ _ _ _ _ _ _ _ _ _)
      unfold owns; iexists _; isplitr
      swap; · iexact H3
      ipureintro; exact View.read_writes_of_cover _ _ _ _ _ (cover1_B_3 c _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

/-- The obligation of the body at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.IRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.IRegion0
public import proofs.«01_k».proof.Proof.IRegion1

/-! The run of the whole program: the contents of the buffers from stretch to stretch. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1]

theorem hostOps0_args : ∀ a ∈ argRefs, a ∉ hostOps0_W := ListAll.forall_mem_of_all_decide (by decide +kernel)
theorem hostOps0_1_args : ∀ a ∈ argRefs, a ∉ hostOps0_1_W := ListAll.forall_mem_of_all_decide (by decide +kernel)
theorem hostOps0_2_args : ∀ a ∈ argRefs, a ∉ hostOps0_2_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers after the stretch `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after the stretch `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev V2 : (c : Dev nD) → (b : Ref sig .tc) → Buf (Elt F) ((c : Thread nD τ).loc b) := fun c b => W2 m ρ c b
/-- The buffers after the stretch `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev V3 : (c : Dev nD) → (b : Ref sig .tc) → Buf (Elt F) ((c : Thread nD τ).loc b) := fun c b => W3 m ρ c b
/-- The buffers after call 0. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- The buffers after the stretch `hostOps1`. -/
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
abbrev V5 : (c : Dev nD) → (b : Ref sig .tc) → Buf (Elt F) ((c : Thread nD τ).loc b) := fun c b => W5 m ρ c b
/-- The buffers after call 1. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- The buffers after the stretch `hostOps2`. -/
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
abbrev V7 : (c : Dev nD) → (b : Ref sig .tc) → Buf (Elt F) ((c : Thread nD τ).loc b) := fun c b => W7 m ρ c b

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)

/-- The proof data of the two calls, each at the contents its call is entered with. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state at the end. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Call 0 as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its seven segments. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- The program runs its segments. -/
theorem main_run (c : Dev nD) : main (F := F) c = Pipeline.Seg.run (segs m ρ) := (main_chain c).trans (by chain_rfl)

set_option backward.isDefEq.respectTransparency.types false in
/-- Each run ends with every unscoped buffer at the last valuation and every semaphore at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c => h c, funext fun g => hz g (.inr (regions_no_unscoped g.2))⟩)

/-- Each run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W7_main_arg0 m ρ c),
      (h.1 c _ (mem_uc main_arg1 (by decide))).trans (W7_main_arg1 m ρ c)⟩, h.2⟩) (run_main m ρ)

end Cert.KernelIdeal.Run

end
-- ==== Proof.Tables.lean ====
/-
  Numbers both programs build: which places of the 16×16 grid are neighbours and how many there are, the sum over a
  three-wide window, and the weights of the linear resize from 16 to 224.
-/
module

public import Idealize.ShloMosaic.PureOps.Ideal
public import Idealize.ShloMosaic.Lib.Pointwise

@[expose] public section

namespace Cert.Tables

open Idealize.ShloMosaic

/-! ## Neighbours -/

/-- Two positions on a line of sixteen, at most one apart. -/
def near1 (i y : Fin 16) : Prop := i.val ≤ y.val + 1 ∧ y.val ≤ i.val + 1

instance (i y : Fin 16) : Decidable (near1 i y) := by unfold near1; infer_instance

/-- How many places lie around `(i, j)`, itself included. -/
def count (i j : Fin 16) : ℕ := ∑ y : Fin 16, ∑ x : Fin 16, if near1 i y ∧ near1 j x then 1 else 0

/-- Every place of the grid has a neighbour. -/
theorem count_pos (i j : Fin 16) : 0 < count i j := by
  have h : 1 ≤ count i j := by
    unfold count
    refine le_trans ?_ (Finset.single_le_sum (f := fun y : Fin 16 => ∑ x : Fin 16, if near1 i y ∧ near1 j x then 1 else 0) (fun _ _ => Nat.zero_le _) (Finset.mem_univ i))
    refine le_trans ?_ (Finset.single_le_sum (f := fun x : Fin 16 => if near1 i i ∧ near1 j x then 1 else 0) (fun _ _ => Nat.zero_le _) (Finset.mem_univ j))
    rw [if_pos ⟨⟨Nat.le_succ _, Nat.le_succ _⟩, ⟨Nat.le_succ _, Nat.le_succ _⟩⟩]
  exact h

/-- Counting the neighbours by summing ones over the grid gives their number. -/
theorem count_cast (i j : Fin 16) :
    (∑ y : Fin 16, ∑ x : Fin 16, if near1 i y ∧ near1 j x then (1 : EReal) else 0) = ((count i j : ℝ) : EReal) := by
  rw [EReal.coe_natCast]
  unfold count
  push_cast
  rfl

/-- Multiplying by a nonnegative finite number goes inside a sum. -/
theorem sum_scale {n : ℕ} (f : Fin n → EReal) (r : ℝ) (hr : 0 ≤ r) : (∑ x, f x) * (r : EReal) = ∑ x, f x * (r : EReal) := by
  have hs : ∀ s : Finset (Fin n), (∑ x ∈ s, f x) * (r : EReal) = ∑ x ∈ s, f x * (r : EReal) := by
    intro s
    induction s using Finset.induction_on with
    | empty => simp
    | insert a s ha ih =>
      rw [Finset.sum_insert ha, Finset.sum_insert ha, EReal.right_distrib_of_nonneg_of_ne_top (by exact_mod_cast hr) (EReal.coe_ne_top r), ih]
  exact hs _

/-- Weighting some places by one over a positive number is dividing their sum by it. -/
theorem pool_sum (P : Fin 16 → Fin 16 → Prop) [∀ y x, Decidable (P y x)] (n : ℝ) (hn : 0 < n) (g : Fin 16 → Fin 16 → EReal) :
    (∑ y : Fin 16, ∑ x : Fin 16, (if P y x then Ideal.div 1 (n : EReal) else 0) * g y x)
      = Ideal.div (∑ y : Fin 16, ∑ x : Fin 16, if P y x then g y x else 0) (n : EReal) := by
  rw [Ideal.div_coe hn.ne', Ideal.div_coe hn.ne', one_mul, sum_scale _ _ (one_div_nonneg.mpr hn.le)]
  refine Finset.sum_congr rfl fun y _ => ?_
  rw [sum_scale _ _ (one_div_nonneg.mpr hn.le)]
  refine Finset.sum_congr rfl fun x _ => ?_
  split
  · exact mul_comm _ _
  · rw [zero_mul, zero_mul]

/-- A window of three around a position, what falls outside counting nothing. -/
theorem window1 {M : Type} [AddCommMonoid M] (i : Fin 16) (g : Fin 16 → M) :
    (∑ d : Fin 3, if h : 1 ≤ i.val + d.val ∧ i.val + d.val - 1 < 16 then g ⟨i.val + d.val - 1, h.2⟩ else 0)
      = ∑ y : Fin 16, if near1 i y then g y else 0 := by
  have e : ∀ d : Fin 3, (if h : 1 ≤ i.val + d.val ∧ i.val + d.val - 1 < 16 then g ⟨i.val + d.val - 1, h.2⟩ else 0)
      = ∑ y : Fin 16, if y.val + 1 = i.val + d.val then g y else 0 := by
    intro d
    split
    · rename_i h
      rw [Finset.sum_eq_single_of_mem (⟨i.val + d.val - 1, h.2⟩ : Fin 16) (Finset.mem_univ _)]
      · rw [if_pos (by show i.val + d.val - 1 + 1 = _; omega)]
      · intro y _ hy
        exact if_neg fun q => hy (Fin.ext (by show y.val = i.val + d.val - 1; omega))
    · rename_i h
      refine (Finset.sum_eq_zero fun y _ => if_neg fun q => h ⟨by omega, by have := y.isLt; omega⟩).symm
  rw [Finset.sum_congr rfl fun d _ => e d, Finset.sum_comm]
  refine Finset.sum_congr rfl fun y _ => ?_
  rw [Fin.sum_univ_three]
  by_cases h0 : y.val + 1 = i.val
  · rw [if_pos (by simpa using h0), if_neg (by show ¬ y.val + 1 = i.val + 1; omega), if_neg (by show ¬ y.val + 1 = i.val + 2; omega), if_pos (show near1 i y from ⟨by omega, by omega⟩), add_zero, add_zero]
  by_cases h1 : y.val = i.val
  · rw [if_neg (by show ¬ y.val + 1 = i.val + 0; omega), if_pos (by show y.val + 1 = i.val + 1; omega), if_neg (by show ¬ y.val + 1 = i.val + 2; omega), if_pos (show near1 i y from ⟨by omega, by omega⟩), zero_add, add_zero]
  by_cases h2 : y.val = i.val + 1
  · rw [if_neg (by show ¬ y.val + 1 = i.val + 0; omega), if_neg (by show ¬ y.val + 1 = i.val + 1; omega), if_pos (by show y.val + 1 = i.val + 2; omega), if_pos (show near1 i y from ⟨by omega, by omega⟩), zero_add, zero_add]
  · rw [if_neg (by show ¬ y.val + 1 = i.val + 0; omega), if_neg (by show ¬ y.val + 1 = i.val + 1; omega), if_neg (by show ¬ y.val + 1 = i.val + 2; omega), if_neg (show ¬ near1 i y from fun q => by have := q.1; have := q.2; omega), add_zero, add_zero]

/-- A nine-place window, what falls outside counting nothing. -/
theorem window2 {M : Type} [AddCommMonoid M] (i j : Fin 16) (g : Fin 16 → Fin 16 → M) :
    (∑ d : Fin 3, ∑ e : Fin 3, if h : (1 ≤ i.val + d.val ∧ i.val + d.val - 1 < 16) ∧ (1 ≤ j.val + e.val ∧ j.val + e.val - 1 < 16)
        then g ⟨i.val + d.val - 1, h.1.2⟩ ⟨j.val + e.val - 1, h.2.2⟩ else 0)
      = ∑ y : Fin 16, ∑ x : Fin 16, if near1 i y ∧ near1 j x then g y x else 0 := by
  have a : ∀ y : Fin 16, (∑ x : Fin 16, if near1 i y ∧ near1 j x then g y x else 0)
      = if near1 i y then ∑ x : Fin 16, (if near1 j x then g y x else 0) else 0 := by
    intro y
    by_cases h : near1 i y
    · simp [h]
    · simp [h]
  rw [Finset.sum_congr rfl fun y _ => a y, ← window1 i]
  refine Finset.sum_congr rfl fun d _ => ?_
  by_cases h : 1 ≤ i.val + d.val ∧ i.val + d.val - 1 < 16
  · rw [dif_pos h, ← window1 j]
    refine Finset.sum_congr rfl fun e _ => ?_
    by_cases h' : 1 ≤ j.val + e.val ∧ j.val + e.val - 1 < 16
    · rw [dif_pos ⟨h, h'⟩, dif_pos h']
    · rw [dif_neg (fun q => h' q.2), dif_neg h']
  · rw [dif_neg h]
    exact Finset.sum_eq_zero fun e _ => dif_neg fun q => h q.1

/-! ## Resizing -/

/-- The word of 1/2. -/
theorem half_bits : Ideal.ofBits .f32 0x3F000000#32 = ((1 / 2 : ℝ) : EReal) := by
  simp [Ideal.ofBits, Ideal.ieee, -EReal.coe_mul]; norm_num

/-- The word of -1/2. -/
theorem neg_half_bits : Ideal.ofBits .f32 0xBF000000#32 = ((-(1 / 2) : ℝ) : EReal) := by
  simp [Ideal.ofBits, Ideal.ieee, -EReal.coe_mul]; norm_num

/-- The word of 31/2, the last place of the grid and half a step. -/
theorem last_bits : Ideal.ofBits .f32 0x41780000#32 = ((31 / 2 : ℝ) : EReal) := by
  simp [Ideal.ofBits, Ideal.ieee, -EReal.coe_mul]; norm_num

/-- The word of 16. -/
theorem sixteen_bits : Ideal.ofBits .f32 0x41800000#32 = ((16 : ℝ) : EReal) := by
  simp [Ideal.ofBits, Ideal.ieee, -EReal.coe_mul]; norm_num

/-- The word of 224. -/
theorem wide_bits : Ideal.ofBits .f32 0x43600000#32 = ((224 : ℝ) : EReal) := by
  simp [Ideal.ofBits, Ideal.ieee, -EReal.coe_mul]; norm_num

/-- The word of 14. -/
theorem zoom_bits : Ideal.ofBits .f32 0x41600000#32 = ((14 : ℝ) : EReal) := by
  simp [Ideal.ofBits, Ideal.ieee, -EReal.coe_mul]; norm_num

/-- The word that the reference compares the weights' totals with is at most 1/4. -/
theorem tiny_bits : Ideal.ofBits .f32 0x38FA0000#32 ≤ ((1 / 4 : ℝ) : EReal) := by
  have h : Ideal.ofBits .f32 0x38FA0000#32 = ((125 / 1048576 : ℝ) : EReal) := by
    simp [Ideal.ofBits, Ideal.ieee, -EReal.coe_mul]; norm_num
  rw [h, EReal.coe_le_coe_iff]; norm_num

/-- Twenty-eight times the weight of input `u` at output `y`. -/
def hatZ (y : Fin 224) (u : Fin 16) : ℤ := max 0 (28 - |2 * (y.val : ℤ) - 13 - 28 * (u.val : ℤ)|)

/-- The weight of input `u` at output `y`. -/
noncomputable def hatR (y : Fin 224) (u : Fin 16) : ℝ := max 0 (1 - |(2 * (y.val : ℝ) - 13) / 28 - u.val|)

/-- The hat weights are whole multiples of 1/28. -/
theorem hatR_eq (y : Fin 224) (u : Fin 16) : hatR y u = (hatZ y u : ℝ) / 28 := by
  have e : (2 * (y.val : ℝ) - 13) / 28 - u.val = (2 * (y.val : ℝ) - 13 - 28 * u.val) / 28 := by ring
  unfold hatR hatZ
  rw [e, abs_div, abs_of_pos (by norm_num : (0 : ℝ) < 28)]
  push_cast
  rw [← max_div_div_right (by norm_num : (0 : ℝ) ≤ 28), zero_div, sub_div, div_self (by norm_num : (28 : ℝ) ≠ 0)]

/-- The hat weights of a row, in units of 1/28, add up to at least 14. -/
theorem hat_sum (y : Fin 224) : 14 ≤ ∑ u : Fin 16, hatZ y u := by
  revert y; decide +kernel

/-- The hat weights of a row add up to at least one half. -/
theorem total_ge (y : Fin 224) : (1 / 2 : ℝ) ≤ ∑ u : Fin 16, hatR y u := by
  have h : (14 : ℝ) ≤ ∑ u : Fin 16, (hatZ y u : ℝ) := by exact_mod_cast hat_sum y
  rw [Finset.sum_congr rfl fun u _ => hatR_eq y u, ← Finset.sum_div]
  linarith

/-- The greater of two real numbers is the same among the extended reals. -/
theorem coe_max (a b : ℝ) : max (a : EReal) (b : EReal) = ((max a b : ℝ) : EReal) :=
  (EReal.coe_strictMono.monotone.map_max).symm

/-- The magnitude of a real number. -/
theorem absf_coe (a : ℝ) : (FloatOps.absf (φ := .f32) (a : EReal) : Ideal .f32) = ((|a| : ℝ) : EReal) := by
  show max (a : EReal) (-(a : EReal)) = _
  rw [← EReal.coe_neg, coe_max]
  rfl

/-- A finite sum of real numbers is the same among the extended reals. -/
theorem coe_finsum {n : ℕ} (f : Fin n → ℝ) : (∑ u, ((f u : ℝ) : EReal)) = ((∑ u, f u : ℝ) : EReal) := by
  refine (map_sum (⟨⟨Real.toEReal, rfl⟩, EReal.coe_add⟩ : ℝ →+ EReal) f Finset.univ).symm

/-- A small number's word, taken as signed, converts to that number. -/
theorem int_word (n : ℕ) (h : n < 1000) : (FloatOps.sitofp .f32 (BitVec.ofNat 32 n) : Ideal .f32) = ((n : ℝ) : EReal) := by
  have e : (BitVec.ofNat 32 n).toInt = (n : ℤ) := by
    rw [BitVec.toInt_eq_toNat_of_lt (by rw [BitVec.toNat_ofNat]; omega), BitVec.toNat_ofNat]
    omega
  show ((((BitVec.ofNat 32 n).toInt : ℝ)) : EReal) = _
  rw [e]; rfl

/-- The sampling place of output `y`. -/
noncomputable def place (y : Fin 224) : ℝ := (2 * (y.val : ℝ) - 13) / 28

/-- No place lies more than half a step before the first. -/
theorem place_ge (y : Fin 224) : -(1 / 2) ≤ place y := by
  unfold place; have : (0 : ℝ) ≤ y.val := Nat.cast_nonneg _; linarith

/-- No place lies more than half a step after the last. -/
theorem place_le (y : Fin 224) : place y ≤ 31 / 2 := by
  have h : (y.val : ℝ) ≤ 223 := by exact_mod_cast Nat.le_of_lt_succ y.isLt
  unfold place; linarith

end Cert.Tables
-- ==== Proof.RefPieces.lean ====
module

public import proofs.«01_k».proof.Proof.Gen.ReferenceIdeal.Run
public import Idealize.ShloMosaic.Lib.Pointwise
public import Idealize.ShloMosaic.Lib.SortFacts
public import proofs.«01_k».proof.Proof.Tables

@[expose] public section

/-! # The reference's steps, read entry by entry -/

namespace Cert.ReferenceIdeal.Value
open Cert.ReferenceIdeal Cert.ReferenceIdeal.Gen Idealize.ShloMosaic Idealize.ShloMosaic.TcCoe Idealize.ShloMosaic.StableHlo

variable {F : FTy → Type} [FloatOps F]

/-- The least distances between every two images' tokens. -/
noncomputable def leastVec (X : FVec F S2x8x256x1024 .f32) (Q : FVec F S2x8x256 .f32) : FVec F S2x8x8x256 .f32 :=
  Host.reduce FloatOps.minimumf (Host.sqrt (maximumf (subf (addf (broadcastInDim S2x8x8x256x256 ![0, 1, 2, 3, 4] bcast_S2x8x1x256x1_S2x8x8x256x256_0_1_2_3_4 (broadcastInDim S2x8x1x256x1 ![0, 1, 3] bcast_S2x8x256_S2x8x1x256x1_0_1_3 Q)) (broadcastInDim S2x8x8x256x256 ![0, 1, 2, 3, 4] bcast_S2x1x8x1x256_S2x8x8x256x256_0_1_2_3_4 (broadcastInDim S2x1x8x1x256 ![0, 2, 4] bcast_S2x8x256_S2x1x8x1x256_0_2_4 Q))) (mulf (broadcastInDim S2x8x8x256x256 ![] bcast_S_S2x8x8x256x256 (constant S_ .f32 0x40000000#32)) (transpose S2x8x8x256x256 [0, 3, 1, 4, 2] (Host.dotGeneral dot_S2x8x256x1024_S2x8x256x1024_S2x8x256x8x256_3_3_12_12_0_0 none X X) transposes_S2x8x256x8x256_S2x8x8x256x256_0_3_1_4_2))) (broadcastInDim S2x8x8x256x256 ![] bcast_S_S2x8x8x256x256 (constant S_ .f32 0x2B8CBCCC#32)))) (constant S_ .f32 0x7F800000#32) reducesTo_S2x8x8x256x256_S2x8x8x256_d4 h_S_

/-- The least distances with the images' own ones masked. -/
noncomputable def maskVec (D : FVec F S2x8x8x256 .f32) : FVec F S2x8x8x256 .f32 :=
  select (broadcastInDim S2x8x8x256 ![0, 1, 2, 3] bcast_S1x8x8x1_S2x8x8x256_0_1_2_3 (broadcastInDim S1x8x8x1 ![1, 2] bcast_S8x8_S1x8x8x1_1_2 (cmpi .eq (addi (iotaInDim S8x8 32 0) (broadcastInDim S8x8 ![] bcast_S_S8x8 (constantI S_ 32 0#32))) (iotaInDim S8x8 32 1)))) (broadcastInDim S2x8x8x256 ![] bcast_S_S2x8x8x256 (constant S_ .f32 0x7F800000#32)) D

/-- The mean of the two first entries, averaged over the layers. -/
noncomputable def meanVec (S : FVec F S2x8x8x256 .f32) : FVec F S8x256 .f32 :=
  Host.divf (Host.reduceAdd (Host.divf (Host.reduceAdd (extractStridedSlice S2x8x2x256 ![0, 0, 0, 0] S slices_S2x8x8x256_S2x8x2x256_0_0_0_0) (constant S_ .f32 0x00000000#32) reducesTo_S2x8x2x256_S2x8x256_d2 h_S_) (broadcastInDim S2x8x256 ![] bcast_S_S2x8x256 (constant S_ .f32 0x40000000#32))) (constant S_ .f32 0x00000000#32) reducesTo_S2x8x256_S8x256_d0 h_S_) (broadcastInDim S8x256 ![] bcast_S_S8x256 (constant S_ .f32 0x40000000#32))

/-- The tokens' scores. -/
noncomputable def patchVec (A B : FVec F S8x256 .f32) : FVec F S8x256 .f32 :=
  Host.divf (addf (addf (broadcastInDim S8x256 ![] bcast_S_S8x256 (constant S_ .f32 0x00000000#32)) A) B) (broadcastInDim S8x256 ![] bcast_S_S8x256 (constant S_ .f32 0x40000000#32))

/-- The resize's weights, from the places, the hats and the hats' totals. -/
noncomputable def weightVec (p : FVec F S224 .f32) (h : FVec F S16x224 .f32) (t : FVec F S1x224 .f32) : FVec F S16x224 .f32 :=
  select (broadcastInDim S16x224 ![0, 1] bcast_S1x224_S16x224_0_1 (broadcastInDim S1x224 ![1] bcast_S224_S1x224_1 (andi (cmpf .oge p (broadcastInDim S224 ![] bcast_S_S224 (constant S_ .f32 0xBF000000#32))) (cmpf .ole p (broadcastInDim S224 ![] bcast_S_S224 (constant S_ .f32 0x41780000#32)))))) (select (broadcastInDim S16x224 ![0, 1] bcast_S1x224_S16x224_0_1 (cmpf .ogt (Host.absf t) (broadcastInDim S1x224 ![] bcast_S_S1x224 (constant S_ .f32 0x38FA0000#32)))) (Host.divf h (broadcastInDim S16x224 ![0, 1] bcast_S1x224_S16x224_0_1 (select (cmpf .une t (broadcastInDim S1x224 ![] bcast_S_S1x224 (constant S_ .f32 0x00000000#32))) t (broadcastInDim S1x224 ![] bcast_S_S1x224 (constant S_ .f32 0x3F800000#32))))) (broadcastInDim S16x224 ![] bcast_S_S16x224 (constant S_ .f32 0x00000000#32))) (broadcastInDim S16x224 ![] bcast_S_S16x224 (constant S_ .f32 0x00000000#32))

/-- The resize of one axis. -/
noncomputable def rowsVec (w : FVec F S16x224 .f32) (s : FVec F S8x256 .f32) : FVec F S224x8x16 .f32 :=
  Host.dotGeneral dot_S16x224_S8x16x16_S224x8x16_0_1_1_02_n_n (some .fp32) w (shapeCast _ s shapeCasts_S8x256_S8x16x16)

/-- The resize of the other axis. -/
noncomputable def colsVec (r : FVec F S224x8x16 .f32) (w : FVec F S16x224 .f32) : FVec F S8x224x224 .f32 :=
  transpose S8x224x224 [1, 0, 2] (Host.dotGeneral dot_S224x8x16_S16x224_S224x8x224_2_0_01_1_n_n (some .fp32) r w) transposes_S224x8x224_S8x224x224_1_0_2

/-- The greatest entry of every map. -/
noncomputable def topVec (f : FVec F S8x224x224 .f32) : FVec F S8 .f32 :=
  Host.reduce FloatOps.maximumf (shapeCast _ f shapeCasts_S8x224x224_S8x50176) (constant S_ .f32 0xFF800000#32) reducesTo_S8x50176_S8_d1 h_S_

/-- The masked least distances, sorted over the images. -/
noncomputable def sortVec (M : FVec F S2x8x8x256 .f32) : FVec F S2x8x8x256 .f32 := Host.sort S2x8x8x256 2 comparator_f32_d2 M

set_option maxRecDepth 8192 in
/-- The rows of the resized maps, through the named steps. -/
theorem v199_eq (V0 : Valuation τ sig (Elt F)) : res_main_v199 V0
    = rowsVec (weightVec (res_main_v108 V0) (res_main_v122 V0) (res_main_v124 V0))
        (patchVec (meanVec (sortVec (maskVec (leastVec (res_main_v14 V0) (res_main_v16 V0)))))
          (meanVec (sortVec (maskVec (leastVec (res_main_v55 V0) (res_main_v57 V0)))))) := rfl

/-- The weights read at an index. -/
theorem weight_at (p : FVec Ideal S224 .f32) (h : FVec Ideal S16x224 .f32) (t : FVec Ideal S1x224 .f32) (x : Fin 16) (u : Fin 224) :
    (weightVec p h t (ix2 x u) : EReal) = Scalar.select
      (IntOp.andi (BitVec.ofBool (decide (Ideal.ofBits .f32 0xBF000000#32 ≤ p (ix1 u)))) (BitVec.ofBool (decide (p (ix1 u) ≤ Ideal.ofBits .f32 0x41780000#32))))
      (if Ideal.ofBits .f32 0x38FA0000#32 < FloatOps.absf (t (ix2 0 u)) then Ideal.div (h (ix2 x u)) (if (t (ix2 0 u) : EReal) ≠ 0 then t (ix2 0 u) else 1) else 0) 0 := by
  pointwise [weightVec]

/-- The least distance from a token of image `b` to the tokens of image `c`. -/
theorem least_at (X : FVec Ideal S2x8x256x1024 .f32) (Q : FVec Ideal S2x8x256 .f32) (l : Fin 2) (b c : Fin 8) (p : Fin 256) :
    (leastVec X Q (ix4 l b c p) : EReal) = Finset.univ.fold min (Ideal.ofBits .f32 0x7F800000#32) fun q : Fin 256 =>
      Ideal.sqrt (max (Q (ix3 l b p) + Q (ix3 l c q) - Ideal.ofBits .f32 0x40000000#32 * ∑ k : Fin 1024, X (ix4 l c q k) * X (ix4 l b p k)) (Ideal.ofBits .f32 0x2B8CBCCC#32)) := by
  pointwise [leastVec]

/-- The mask's bit says whether two images are the same. -/
theorem same_bit (b c : Fin 8) : IntOp.cmpi .eq (IntOp.addi (BitVec.ofNat 32 b.val) 0#32) (BitVec.ofNat 32 c.val) = if b = c then 1#1 else 0#1 := by
  revert b c; decide +kernel

/-- The masked distances. -/
theorem mask_at (D : FVec Ideal S2x8x8x256 .f32) (l : Fin 2) (b c : Fin 8) (p : Fin 256) :
    (maskVec D (ix4 l b c p) : EReal) = if b = c then Ideal.ofBits .f32 0x7F800000#32 else D (ix4 l b c p) := by
  have e : (maskVec D (ix4 l b c p) : EReal) = Scalar.select (IntOp.cmpi .eq (IntOp.addi (BitVec.ofNat 32 b.val) 0#32) (BitVec.ofNat 32 c.val))
      (Ideal.ofBits .f32 0x7F800000#32) (D (ix4 l b c p)) := by
    pointwise [maskVec]
  rw [e, same_bit]
  split <;> rfl

/-- The mean of the two first values, and of the two layers. -/
theorem mean_at (S : FVec Ideal S2x8x8x256 .f32) (b : Fin 8) (p : Fin 256) : (meanVec S (ix2 b p) : EReal)
    = Ideal.div (∑ l : Fin 2, Ideal.div (∑ x : Fin 2, S (ix4 l b ⟨x.val, by omega⟩ p)) (Ideal.ofBits .f32 0x40000000#32)) (Ideal.ofBits .f32 0x40000000#32) := by
  pointwise [meanVec]

/-- The mean over the two pooling sizes. -/
theorem patch_at (A B : FVec Ideal S8x256 .f32) (b : Fin 8) (p : Fin 256) :
    (patchVec A B (ix2 b p) : EReal) = Ideal.div (A (ix2 b p) + B (ix2 b p)) (Ideal.ofBits .f32 0x40000000#32) := by
  pointwise [patchVec]

/-- The resize along the rows. -/
theorem rows_at (w : FVec Ideal S16x224 .f32) (s : FVec Ideal S8x256 .f32) (i : Fin 224) (b : Fin 8) (v : Fin 16) :
    (rowsVec w s (ix3 i b v) : EReal) = ∑ u : Fin 16, w (ix2 u i) * s (ix2 b ⟨u.val * 16 + v.val, by omega⟩) := by
  pointwise [rowsVec]

/-- The resize along the columns. -/
theorem cols_at (r : FVec Ideal S224x8x16 .f32) (w : FVec Ideal S16x224 .f32) (i j : Fin 224) (b : Fin 8) :
    (colsVec r w (ix3 b i j) : EReal) = ∑ v : Fin 16, r (ix3 i b v) * w (ix2 v j) := by
  pointwise [colsVec]

/-- The greatest entry of an image's map. -/
theorem top_at (f : FVec Ideal S8x224x224 .f32) (b : Fin 8) : (topVec f (ix1 b) : EReal)
    = (Finset.univ : Finset (Fin 224 × Fin 224)).fold max (Ideal.ofBits .f32 0xFF800000#32) fun x => f (ix3 b x.1 x.2) := by
  have e : (topVec f (ix1 b) : EReal) = Finset.univ.fold max (Ideal.ofBits .f32 0xFF800000#32)
      fun x : Fin 50176 => f (ix3 b ⟨x.val / 224, by omega⟩ ⟨x.val % 224, by omega⟩) := by
    pointwise [topVec]
  have hu : (Finset.univ : Finset (Fin 50176)) = (Finset.univ : Finset (Fin 224 × Fin 224)).map (finProdFinEquiv (m := 224) (n := 224)).toEmbedding :=
    (Finset.map_univ_equiv _).symm
  rw [e, hu, Finset.fold_map]
  refine Finset.fold_congr fun x _ => ?_
  have a : (finProdFinEquiv (m := 224) (n := 224) x).val = x.2.val + 224 * x.1.val := rfl
  have a1 : (⟨(finProdFinEquiv (m := 224) (n := 224) x).val / 224, by omega⟩ : Fin 224) = x.1 := Fin.ext (by show _ / 224 = x.1.val; omega)
  have a2 : (⟨(finProdFinEquiv (m := 224) (n := 224) x).val % 224, by omega⟩ : Fin 224) = x.2 := Fin.ext (by show _ % 224 = x.2.val; omega)
  show f (ix3 b ⟨(finProdFinEquiv (m := 224) (n := 224) x).val / 224, _⟩ ⟨(finProdFinEquiv (m := 224) (n := 224) x).val % 224, _⟩) = _
  rw [a1, a2]

/-- The sort's comparison is the order of the extended reals. -/
theorem cmp_at (l r : Ideal .f32) : comparator_f32_d2 l r = BitVec.ofBool (decide ((l : EReal) < r)) := by
  unfold comparator_f32_d2
  have h1 : ∀ x : Ideal .f32, Scalar.select (FloatOps.cmpf .une x x) (Ideal.ofBits .f32 0x7FC00000#32)
      (Scalar.select (FloatOps.cmpf .oeq x (0 : EReal)) (0 : EReal) x) = x := by
    intro x
    have e : FloatOps.cmpf .une x x = 0#1 := by
      show Ideal.cmp _ x x = _
      simp [Ideal.cmp]
    rw [e]
    show Scalar.select (Ideal.cmp _ x (0 : EReal)) (0 : EReal) x = x
    by_cases hx : (x : EReal) = 0
    · subst hx; simp [Scalar.select]
    · simp [Ideal.cmp, hx, Scalar.select]
  simp
  rw [h1 l, h1 r]
  rfl

/-! ## The sort -/

/-- How the sort orders the entries of one row. -/
noncomputable def rowBefore (M : FVec Ideal S2x8x8x256 .f32) (l : Fin 2) (b : Fin 8) (p : Fin 256) (k k' : Fin 8) : Bool :=
  comparator_f32_d2 (M (ix4 l b k p)) (M (ix4 l b k' p)) == 1#1

/-- The order by which one token's distances are sorted. -/
theorem rowBefore_eq (M : FVec Ideal S2x8x8x256 .f32) (l : Fin 2) (b : Fin 8) (p : Fin 256) (k k' : Fin 8) :
    rowBefore M l b p k k' = decide ((M (ix4 l b k p) : EReal) < M (ix4 l b k' p)) := by
  rw [rowBefore, cmp_at]
  by_cases h : (M (ix4 l b k p) : EReal) < M (ix4 l b k' p)
  · rw [decide_eq_true h]; rfl
  · rw [decide_eq_false h]; rfl

/-- A sorted array, read at a place, through the order along its axis. -/
theorem sort_along {s : Shape} {d : ℕ} {α : Type} (hd : d < s.rank) (cmp : α → α → BitVec 1) (x : s.Idx → α) (j : s.Idx) :
    Host.sort s d cmp x j = x (j.along ⟨d, hd⟩ (sortedFrom (fun k k' => cmp (x (j.along ⟨d, hd⟩ k)) (x (j.along ⟨d, hd⟩ k')) == 1#1) (j ⟨d, hd⟩))) :=
  dif_pos hd

/-- The axis sorted along is one of the four. -/
theorem third_axis : 2 < S2x8x8x256.rank := by decide

/-- Replacing the coordinate along the sorted axis. -/
theorem along_eq (l : Fin 2) (b c k : Fin 8) (p : Fin 256) : Shape.Idx.along (s := S2x8x8x256) (ix4 l b c p) ⟨2, third_axis⟩ k = ix4 l b k p := by
  funext a
  fin_cases a <;> rfl

/-- The sorted distances, read at a place. -/
theorem sort_at (M : FVec Ideal S2x8x8x256 .f32) (l : Fin 2) (b r : Fin 8) (p : Fin 256) :
    sortVec M (ix4 l b r p) = M (ix4 l b (sortedFrom (rowBefore M l b p) r) p) := by
  have e : (fun k k' : Fin 8 => comparator_f32_d2 (M (Shape.Idx.along (s := S2x8x8x256) (ix4 l b r p) ⟨2, third_axis⟩ k))
      (M (Shape.Idx.along (s := S2x8x8x256) (ix4 l b r p) ⟨2, third_axis⟩ k')) == 1#1) = rowBefore M l b p := by
    funext k k'
    exact congrArg₂ (fun u v => comparator_f32_d2 (M u) (M v) == 1#1) (along_eq l b r k p) (along_eq l b r k' p)
  have e' : sortVec M (ix4 l b r p) = M (Shape.Idx.along (s := S2x8x8x256) (ix4 l b r p) ⟨2, third_axis⟩
      (sortedFrom (fun k k' : Fin 8 => comparator_f32_d2 (M (Shape.Idx.along (s := S2x8x8x256) (ix4 l b r p) ⟨2, third_axis⟩ k))
        (M (Shape.Idx.along (s := S2x8x8x256) (ix4 l b r p) ⟨2, third_axis⟩ k')) == 1#1) r)) :=
    sort_along third_axis _ M _
  exact e'.trans ((congrArg M (along_eq l b r _ p)).trans (congrArg (fun f : Fin 8 → Fin 8 → Bool => M (ix4 l b (sortedFrom f r) p)) e))

/-! ## The windows -/

/-- Adding in order is the sum. -/
theorem foldl_sum {n : ℕ} (f : Fin n → EReal) : (List.finRange n).foldl (fun r k => r + f k) 0 = ∑ k, f k := by
  rw [Fin.sum_univ_def, List.sum_eq_foldl, List.foldl_map]

/-- The padding is zero. -/
theorem reads_zero (a : S_.Idx) : (broadcastInDim S_ ![] bcast_S_S_ (constant (F := Ideal) S_ .f32 0x00000000#32) a : EReal) = 0 := by
  show Ideal.ofBits .f32 0x00000000#32 = 0
  simp [Ideal.ofBits, Ideal.ieee]

/-- There is one coordinate on an axis of size one. -/
theorem fin1_zero (x : Fin 1) : x = 0 := Subsingleton.elim _ _

/-- The entry at a place of the padded operand: the padding outside. -/
noncomputable def cell (s : Shape) (lo p : Fin s.rank → ℕ) (x : s.Idx → EReal) (v : EReal) : EReal :=
  if hin : ∀ a, lo a ≤ p a ∧ p a - lo a < s.size a then x (fun a => ⟨p a - lo a, (hin a).2⟩) else v

/-- A window's sum is the sum over the window's places. -/
theorem window_sum {s t : Shape} (window strides lo hi : Fin s.rank → ℕ) (h : s.ReduceWindows window strides lo hi t) (x : FVec Ideal s .f32) (j : t.Idx) :
    Ideal.hostReduceWindowAdd window strides lo hi h x 0 j
      = ∑ w : (⟨s.rank, window⟩ : Shape).Idx, cell s lo (fun a => (j (a.cast h.1.symm)).val * strides a + (w a).val) x 0 := by
  refine (foldl_sum _).trans ((Finset.sum_congr rfl fun k _ => ?_).trans ((⟨s.rank, window⟩ : Shape).rowMajor.symm.sum_comp
    (fun w => cell s lo (fun a => (j (a.cast h.1.symm)).val * strides a + (w a).val) x 0)))
  unfold cell
  congr

/-- A window of one place reads that place. -/
theorem one_at {A D : ℕ} (x : FVec Ideal (⟨4, ![A, 16, 16, D]⟩ : Shape) .f32) (v : EReal) (hv : v = 0)
    (h : (⟨4, ![A, 16, 16, D]⟩ : Shape).ReduceWindows ![1, 1, 1, 1] ![1, 1, 1, 1] ![0, 0, 0, 0] ![0, 0, 0, 0] (⟨4, ![A, 16, 16, D]⟩ : Shape))
    (a : Fin A) (i j : Fin 16) (d : Fin D) :
    Ideal.hostReduceWindowAdd ![1, 1, 1, 1] ![1, 1, 1, 1] ![0, 0, 0, 0] ![0, 0, 0, 0] h x v (ix4 a i j d) = x (ix4 a i j d) := by
  subst hv
  refine (window_sum _ _ _ _ h x _).trans ?_
  have hw : ∀ w : (⟨4, ![1, 1, 1, 1]⟩ : Shape).Idx, w = ix4 (0 : Fin 1) (0 : Fin 1) (0 : Fin 1) (0 : Fin 1) := fun w =>
    (eq_ix4 (n0 := 1) (n1 := 1) (n2 := 1) (n3 := 1) w).trans (by rw [fin1_zero (w 0), fin1_zero (w 1), fin1_zero (w 2), fin1_zero (w 3)])
  refine (Finset.sum_eq_single (ix4 (0 : Fin 1) (0 : Fin 1) (0 : Fin 1) (0 : Fin 1)) (fun w _ h => absurd (hw w) h) (fun h => absurd (Finset.mem_univ _) h)).trans ?_
  refine (dif_pos ?_).trans ?_
  · intro t; fin_cases t <;> simp [ix4]
  · refine congrArg x (funext fun t => Fin.ext ?_)
    fin_cases t <;> simp [ix4]

/-- The nine places of a window. -/
def places : Fin 3 × Fin 3 ≃ (⟨4, ![1, 3, 3, 1]⟩ : Shape).Idx where
  toFun x := ix4 (0 : Fin 1) x.1 x.2 (0 : Fin 1)
  invFun w := (w 1, w 2)
  left_inv x := rfl
  right_inv w := Eq.trans (by rw [fin1_zero (w 0), fin1_zero (w 3)]) (eq_ix4 (n0 := 1) (n1 := 3) (n2 := 3) (n3 := 1) w).symm

/-- The places of a window of three by three. -/
theorem places_eq (e f : Fin 3) : places (e, f) = ix4 (0 : Fin 1) e f (0 : Fin 1) := rfl

open Cert.Tables in
/-- A nine-place window sums the places beside it. -/
theorem nine_at {A D : ℕ} (x : FVec Ideal (⟨4, ![A, 16, 16, D]⟩ : Shape) .f32) (v : EReal) (hv : v = 0)
    (h : (⟨4, ![A, 16, 16, D]⟩ : Shape).ReduceWindows ![1, 3, 3, 1] ![1, 1, 1, 1] ![0, 1, 1, 0] ![0, 1, 1, 0] (⟨4, ![A, 16, 16, D]⟩ : Shape))
    (a : Fin A) (i j : Fin 16) (d : Fin D) :
    Ideal.hostReduceWindowAdd ![1, 3, 3, 1] ![1, 1, 1, 1] ![0, 1, 1, 0] ![0, 1, 1, 0] h x v (ix4 a i j d)
      = ∑ y : Fin 16, ∑ z : Fin 16, if near1 i y ∧ near1 j z then (x (ix4 a y z d) : EReal) else 0 := by
  subst hv
  refine (window_sum _ _ _ _ h x _).trans ?_
  rw [← window2 i j (fun y z => (x (ix4 a y z d) : EReal)), ← Fintype.sum_prod_type']
  refine (places.sum_comp _).symm.trans ?_
  refine Finset.sum_congr rfl fun w _ => ?_
  obtain ⟨e, f⟩ := w
  rw [places_eq]
  dsimp only
  by_cases hc : (1 ≤ i.val + e.val ∧ i.val + e.val - 1 < 16) ∧ (1 ≤ j.val + f.val ∧ j.val + f.val - 1 < 16)
  · refine (dif_pos ?_).trans (Eq.trans ?_ (dif_pos hc).symm)
    · obtain ⟨⟨h1, h2⟩, h3, h4⟩ := hc
      intro t; fin_cases t <;> simp [ix4] <;> omega
    · refine congrArg x (funext fun t => Fin.ext ?_)
      fin_cases t <;> simp [ix4]
  · rw [dif_neg hc]
    refine dif_neg ?_
    intro hin
    have h1 : 1 ≤ i.val * 1 + e.val ∧ i.val * 1 + e.val - 1 < 16 := hin 1
    have h2 : 1 ≤ j.val * 1 + f.val ∧ j.val * 1 + f.val - 1 < 16 := hin 2
    omega

end Cert.ReferenceIdeal.Value
-- ==== Proof.Pairs.lean ====
/-
  What the fused body of the kernel computes, said once over named vector functions: the nearest distances between two
  images, the two smallest kept over a list of images, one column per image, and the eight columns side by side.
-/
module

public import proofs.«01_k».proof.Proof.IRegion0

@[expose] public section

set_option maxRecDepth 16384

namespace Cert.KernelIdeal.Run

open Cert.KernelIdeal.Gen
open Idealize.ShloMosaic Idealize.ShloMosaic.TcCoe Idealize.ShloMosaic.Tactic

variable {F : FTy → Type} [FloatOps F] [Named F]

/-- The squared norms of an image's tokens, as a column. -/
noncomputable def sqCol (x : FVec F S256x1024 .f32) : FVec F S256x1 .f32 :=
  shapeCast S256x1 (multiReduction .add [1] S256 (mulf x x) 0x00000000#32 reduces_S256x1024_S256 (.inl rfl) rfl) shapeCasts_S256_S256x1

/-- The squared norms of an image's tokens, as a row. -/
noncomputable def sqRow (x : FVec F S256x1024 .f32) : FVec F S1x256 .f32 := transpose S1x256 [1, 0] (sqCol x) transposes_S256x1_p1_0_S1x256

/-- For each token of image `x`, the squared distance to the nearest token of image `y`; `g` holds the products. -/
noncomputable def rowNear (x y : FVec F S256x1024 .f32) (g : FVec F S256x256 .f32) : FVec F S256x1 .f32 :=
  addf (shapeCast S256x1 (multiReduction .minimumf [1] S256 (subf (broadcastTo S256x256 (sqRow y) broadcasts_S1x256_S256x256)
    (mulf (broadcast S256x256 (Scalar.ofBits .f32 0x40000000#32)) g)) 0x7F800000#32 reduces_S256x256_S256 (.inl rfl) rfl) shapeCasts_S256_S256x1) (sqCol x)

/-- For each token of image `y`, the squared distance to the nearest token of image `x`; `g` holds the products. -/
noncomputable def colNear (x y : FVec F S256x1024 .f32) (g : FVec F S256x256 .f32) : FVec F S1x256 .f32 :=
  addf (shapeCast S1x256 (multiReduction .minimumf [0] S256 (subf (broadcastTo S256x256 (sqCol x) broadcasts_S256x1_S256x256)
    (mulf (broadcast S256x256 (Scalar.ofBits .f32 0x40000000#32)) g)) 0x7F800000#32 reduces_S256x256_S256_2 (.inl rfl) rfl) shapeCasts_S256_S1x256) (sqRow y)

/-- One step of keeping the two smallest values seen. -/
noncomputable def keepTwo {s : Shape} (m : FVec F s .f32 × FVec F s .f32) (v : FVec F s .f32) : FVec F s .f32 × FVec F s .f32 :=
  (minimumf m.1 v, minimumf m.2 (maximumf m.1 v))

/-- The two smallest of a list of vectors, from the starting value named `big`. -/
noncomputable def twoSmallest {s : Shape} (l : List (FVec F s .f32)) : FVec F s .f32 × FVec F s .f32 :=
  l.foldl keepTwo (broadcast s (Named.named κ "big" 0x4E6E6B28#32), broadcast s (Named.named κ "big" 0x4E6E6B28#32))

/-- The column of one image: the two smallest of the distances found from either side, rooted and scaled. -/
noncomputable def scoreCol (rs : List (FVec F S256x1 .f32)) (cs : List (FVec F S1x256 .f32)) : FVec F S256x1 .f32 :=
  mulf (addf
    (sqrt (maximumf (minimumf (twoSmallest rs).1 (transpose S256x1 [1, 0] (twoSmallest cs).1 transposes_S1x256_p1_0_S256x1)) (broadcast S256x1 (Scalar.ofBits .f32 0x2B8CBCCC#32))))
    (sqrt (maximumf (minimumf (maximumf (twoSmallest rs).1 (transpose S256x1 [1, 0] (twoSmallest cs).1 transposes_S1x256_p1_0_S256x1))
      (minimumf (twoSmallest rs).2 (transpose S256x1 [1, 0] (twoSmallest cs).2 transposes_S1x256_p1_0_S256x1))) (broadcast S256x1 (Scalar.ofBits .f32 0x2B8CBCCC#32)))))
    (broadcast S256x1 (Scalar.ofBits .f32 0x3E000000#32))

/-- The column of image `b` from the images `x` and the products `g b c` kept for `b < c`. -/
noncomputable def imageCol (x : Fin 8 → FVec F S256x1024 .f32) (g : Fin 8 → Fin 8 → FVec F S256x256 .f32) (b : Fin 8) (after before : List (Fin 8)) : FVec F S256x1 .f32 :=
  scoreCol (after.map fun c => rowNear (x b) (x c) (g b c)) (before.map fun a => colNear (x a) (x b) (g a b))

/-- The eight columns side by side. -/
noncomputable def allCols (x : Fin 8 → FVec F S256x1024 .f32) (g : Fin 8 → Fin 8 → FVec F S256x256 .f32) : FVec F S256x8 .f32 :=
  concatenate S256x8 1 [⟨S256x1, imageCol x g 0 [1, 2, 3, 4, 5, 6, 7] []⟩,
    ⟨S256x1, imageCol x g 1 [2, 3, 4, 5, 6, 7] [0]⟩,
    ⟨S256x1, imageCol x g 2 [3, 4, 5, 6, 7] [0, 1]⟩,
    ⟨S256x1, imageCol x g 3 [4, 5, 6, 7] [0, 1, 2]⟩,
    ⟨S256x1, imageCol x g 4 [5, 6, 7] [0, 1, 2, 3]⟩,
    ⟨S256x1, imageCol x g 5 [6, 7] [0, 1, 2, 3, 4]⟩,
    ⟨S256x1, imageCol x g 6 [7] [0, 1, 2, 3, 4, 5]⟩,
    ⟨S256x1, imageCol x g 7 [] [0, 1, 2, 3, 4, 5, 6]⟩]
    concatenates_S256x1_S256x1_S256x1_S256x1_S256x1_S256x1_S256x1_S256x1_S256x8_d1

/-- The eight images held in a scratch array, each a block of 256 rows. -/
noncomputable def slabs (a : Memref sig .tc .vmem S2048x1024 .f32) (H : List (View.Piece (Elt F) S2048x1024 .f32)) : Fin 8 → FVec F S256x1024 .f32 :=
  ![a.view.readCov H (Rect.unit (s := S2048x1024) ![0, 0] S256x1024.size inb_S2048x1024_S256x1024_0_0).toLoadRect,
    a.view.readCov H (Rect.unit (s := S2048x1024) ![256, 0] S256x1024.size inb_S2048x1024_S256x1024_256_0).toLoadRect,
    a.view.readCov H (Rect.unit (s := S2048x1024) ![512, 0] S256x1024.size inb_S2048x1024_S256x1024_512_0).toLoadRect,
    a.view.readCov H (Rect.unit (s := S2048x1024) ![768, 0] S256x1024.size inb_S2048x1024_S256x1024_768_0).toLoadRect,
    a.view.readCov H (Rect.unit (s := S2048x1024) ![1024, 0] S256x1024.size inb_S2048x1024_S256x1024_1024_0).toLoadRect,
    a.view.readCov H (Rect.unit (s := S2048x1024) ![1280, 0] S256x1024.size inb_S2048x1024_S256x1024_1280_0).toLoadRect,
    a.view.readCov H (Rect.unit (s := S2048x1024) ![1536, 0] S256x1024.size inb_S2048x1024_S256x1024_1536_0).toLoadRect,
    a.view.readCov H (Rect.unit (s := S2048x1024) ![1792, 0] S256x1024.size inb_S2048x1024_S256x1024_1792_0).toLoadRect]

/-- The products of image 0 with all the later images. -/
noncomputable def gram0 (a : Memref sig .tc .vmem S2048x1024 .f32) (H : List (View.Piece (Elt F) S2048x1024 .f32)) : FVec F S256x1792 .f32 :=
  matmul dot_S256x1024_S1792x1024_S256x1792_1_1_0_0_n_n none (slabs a H 0)
    (a.view.readCov H (Rect.unit (s := S2048x1024) ![256, 0] S1792x1024.size inb_S2048x1024_S1792x1024_256_0).toLoadRect) (constant S256x1792 .f32 0x00000000#32)

/-- The products of image 1 with all the later images. -/
noncomputable def gram1 (a : Memref sig .tc .vmem S2048x1024 .f32) (H : List (View.Piece (Elt F) S2048x1024 .f32)) : FVec F S256x1536 .f32 :=
  matmul dot_S256x1024_S1536x1024_S256x1536_1_1_0_0_n_n none (slabs a H 1)
    (a.view.readCov H (Rect.unit (s := S2048x1024) ![512, 0] S1536x1024.size inb_S2048x1024_S1536x1024_512_0).toLoadRect) (constant S256x1536 .f32 0x00000000#32)

/-- The products of image 2 with all the later images. -/
noncomputable def gram2 (a : Memref sig .tc .vmem S2048x1024 .f32) (H : List (View.Piece (Elt F) S2048x1024 .f32)) : FVec F S256x1280 .f32 :=
  matmul dot_S256x1024_S1280x1024_S256x1280_1_1_0_0_n_n none (slabs a H 2)
    (a.view.readCov H (Rect.unit (s := S2048x1024) ![768, 0] S1280x1024.size inb_S2048x1024_S1280x1024_768_0).toLoadRect) (constant S256x1280 .f32 0x00000000#32)

/-- The products of image 3 with all the later images. -/
noncomputable def gram3 (a : Memref sig .tc .vmem S2048x1024 .f32) (H : List (View.Piece (Elt F) S2048x1024 .f32)) : FVec F S256x1024 .f32 :=
  matmul dot_S256x1024_S1024x1024_S256x1024_1_1_0_0_n_n none (slabs a H 3)
    (a.view.readCov H (Rect.unit (s := S2048x1024) ![1024, 0] S1024x1024.size inb_S2048x1024_S1024x1024_1024_0).toLoadRect) (constant S256x1024 .f32 0x00000000#32)

/-- The products of image 4 with all the later images. -/
noncomputable def gram4 (a : Memref sig .tc .vmem S2048x1024 .f32) (H : List (View.Piece (Elt F) S2048x1024 .f32)) : FVec F S256x768 .f32 :=
  matmul dot_S256x1024_S768x1024_S256x768_1_1_0_0_n_n none (slabs a H 4)
    (a.view.readCov H (Rect.unit (s := S2048x1024) ![1280, 0] S768x1024.size inb_S2048x1024_S768x1024_1280_0).toLoadRect) (constant S256x768 .f32 0x00000000#32)

/-- The products of image 5 with all the later images. -/
noncomputable def gram5 (a : Memref sig .tc .vmem S2048x1024 .f32) (H : List (View.Piece (Elt F) S2048x1024 .f32)) : FVec F S256x512 .f32 :=
  matmul dot_S256x1024_S512x1024_S256x512_1_1_0_0_n_n none (slabs a H 5)
    (a.view.readCov H (Rect.unit (s := S2048x1024) ![1536, 0] S512x1024.size inb_S2048x1024_S512x1024_1536_0).toLoadRect) (constant S256x512 .f32 0x00000000#32)

/-- The products of image 6 with all the later images. -/
noncomputable def gram6 (a : Memref sig .tc .vmem S2048x1024 .f32) (H : List (View.Piece (Elt F) S2048x1024 .f32)) : FVec F S256x256 .f32 :=
  matmul dot_S256x1024_S256x1024_S256x256_1_1_0_0_n_n none (slabs a H 6)
    (a.view.readCov H (Rect.unit (s := S2048x1024) ![1792, 0] S256x1024.size inb_S2048x1024_S256x1024_1792_0).toLoadRect) (constant S256x256 .f32 0x00000000#32)

/-- The products of image `b` with each later image `c`, cut from one product with all of them. -/
noncomputable def grams (a : Memref sig .tc .vmem S2048x1024 .f32) (H : List (View.Piece (Elt F) S2048x1024 .f32)) : Fin 8 → Fin 8 → FVec F S256x256 .f32 :=
  let z : FVec F S256x256 .f32 := constant S256x256 .f32 0x00000000#32
  ![![z,
      extractStridedSlice S256x256 ![0, 0] (gram0 a H) slices_S256x1792_o0_0_S256x256,
      extractStridedSlice S256x256 ![0, 256] (gram0 a H) slices_S256x1792_o0_256_S256x256,
      extractStridedSlice S256x256 ![0, 512] (gram0 a H) slices_S256x1792_o0_512_S256x256,
      extractStridedSlice S256x256 ![0, 768] (gram0 a H) slices_S256x1792_o0_768_S256x256,
      extractStridedSlice S256x256 ![0, 1024] (gram0 a H) slices_S256x1792_o0_1024_S256x256,
      extractStridedSlice S256x256 ![0, 1280] (gram0 a H) slices_S256x1792_o0_1280_S256x256,
      extractStridedSlice S256x256 ![0, 1536] (gram0 a H) slices_S256x1792_o0_1536_S256x256],
    ![z,
      z,
      extractStridedSlice S256x256 ![0, 0] (gram1 a H) slices_S256x1536_o0_0_S256x256,
      extractStridedSlice S256x256 ![0, 256] (gram1 a H) slices_S256x1536_o0_256_S256x256,
      extractStridedSlice S256x256 ![0, 512] (gram1 a H) slices_S256x1536_o0_512_S256x256,
      extractStridedSlice S256x256 ![0, 768] (gram1 a H) slices_S256x1536_o0_768_S256x256,
      extractStridedSlice S256x256 ![0, 1024] (gram1 a H) slices_S256x1536_o0_1024_S256x256,
      extractStridedSlice S256x256 ![0, 1280] (gram1 a H) slices_S256x1536_o0_1280_S256x256],
    ![z,
      z,
      z,
      extractStridedSlice S256x256 ![0, 0] (gram2 a H) slices_S256x1280_o0_0_S256x256,
      extractStridedSlice S256x256 ![0, 256] (gram2 a H) slices_S256x1280_o0_256_S256x256,
      extractStridedSlice S256x256 ![0, 512] (gram2 a H) slices_S256x1280_o0_512_S256x256,
      extractStridedSlice S256x256 ![0, 768] (gram2 a H) slices_S256x1280_o0_768_S256x256,
      extractStridedSlice S256x256 ![0, 1024] (gram2 a H) slices_S256x1280_o0_1024_S256x256],
    ![z,
      z,
      z,
      z,
      extractStridedSlice S256x256 ![0, 0] (gram3 a H) slices_S256x1024_o0_0_S256x256,
      extractStridedSlice S256x256 ![0, 256] (gram3 a H) slices_S256x1024_o0_256_S256x256,
      extractStridedSlice S256x256 ![0, 512] (gram3 a H) slices_S256x1024_o0_512_S256x256,
      extractStridedSlice S256x256 ![0, 768] (gram3 a H) slices_S256x1024_o0_768_S256x256],
    ![z,
      z,
      z,
      z,
      z,
      extractStridedSlice S256x256 ![0, 0] (gram4 a H) slices_S256x768_o0_0_S256x256,
      extractStridedSlice S256x256 ![0, 256] (gram4 a H) slices_S256x768_o0_256_S256x256,
      extractStridedSlice S256x256 ![0, 512] (gram4 a H) slices_S256x768_o0_512_S256x256],
    ![z,
      z,
      z,
      z,
      z,
      z,
      extractStridedSlice S256x256 ![0, 0] (gram5 a H) slices_S256x512_o0_0_S256x256,
      extractStridedSlice S256x256 ![0, 256] (gram5 a H) slices_S256x512_o0_256_S256x256],
    ![z,
      z,
      z,
      z,
      z,
      z,
      z,
      gram6 a H],
    ![z,
      z,
      z,
      z,
      z,
      z,
      z,
      z]]

/-- The feature scratch after its store. -/
noncomputable def featPieces (t : FVec F S2048x588 .f32) (wt : FVec F S1x588x1024 .f32) : List (View.Piece (Elt F) S2048x1024 .f32) :=
  [⟨Rect.unit (s := S2048x1024) ![0, 0] S2048x1024.size inb_S2048x1024_S2048x1024_0_0, k0_pay3 t wt⟩]

/-- The neighbourhood scratch after its eight stores, from the pooling matrix and the features. -/
noncomputable def poolPieces (p : FVec F S256x256 .f32) (f : Fin 8 → FVec F S256x1024 .f32) : List (View.Piece (Elt F) S2048x1024 .f32) :=
  [⟨Rect.unit (s := S2048x1024) ![1792, 0] S256x1024.size inb_S2048x1024_S256x1024_1792_0, k0_pay4 p (f 7)⟩,
    ⟨Rect.unit (s := S2048x1024) ![1536, 0] S256x1024.size inb_S2048x1024_S256x1024_1536_0, k0_pay4 p (f 6)⟩,
    ⟨Rect.unit (s := S2048x1024) ![1280, 0] S256x1024.size inb_S2048x1024_S256x1024_1280_0, k0_pay4 p (f 5)⟩,
    ⟨Rect.unit (s := S2048x1024) ![1024, 0] S256x1024.size inb_S2048x1024_S256x1024_1024_0, k0_pay4 p (f 4)⟩,
    ⟨Rect.unit (s := S2048x1024) ![768, 0] S256x1024.size inb_S2048x1024_S256x1024_768_0, k0_pay4 p (f 3)⟩,
    ⟨Rect.unit (s := S2048x1024) ![512, 0] S256x1024.size inb_S2048x1024_S256x1024_512_0, k0_pay4 p (f 2)⟩,
    ⟨Rect.unit (s := S2048x1024) ![256, 0] S256x1024.size inb_S2048x1024_S256x1024_256_0, k0_pay4 p (f 1)⟩,
    ⟨Rect.unit (s := S2048x1024) ![0, 0] S256x1024.size inb_S2048x1024_S256x1024_0_0, k0_pay4 p (f 0)⟩]

/-- The value one grid point adds to the sums: the columns of the features plus those of the pooled features. -/
noncomputable def fusedVal (a5 a6 : Memref sig .tc .vmem S2048x1024 .f32) (t : FVec F S2048x588 .f32) (wt : FVec F S1x588x1024 .f32) (p : FVec F S256x256 .f32) : FVec F S256x8 .f32 :=
  addf (allCols (slabs a5 (featPieces t wt)) (grams a5 (featPieces t wt)))
    (allCols (slabs a6 (poolPieces p (slabs a5 (featPieces t wt)))) (grams a6 (poolPieces p (slabs a5 (featPieces t wt)))))

set_option maxHeartbeats 2000000 in
/-- What the first grid point stores. -/
theorem kernelRun0_A_fst (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x588 .f32) (x1 : Vec F S1x588x1024 .f32) (x2 : Vec F S256x256 .f32)  :
    (kernelRun0_A c i arg1 harg1 arg2 harg2 arg3 harg3 arg4 harg4 arg5 harg5 arg6 harg6 hc0 hc1 x0 x1 x2).1 =
      [⟨Rect.unit (s := S256x8) ![0, 0] S256x8.size inb_S256x8_S256x8_0_0, fusedVal arg5 arg6
        (arg1.view.readAt (Elt F) (Rect.unit (s := S2048x588) ![0, 0] S2048x588.size inb_S2048x588_S2048x588_0_0).toLoadRect (harg1.unread x0))
        (arg2.view.readAt (Elt F) (Rect.unit (s := S1x588x1024) ![0, 0, 0] S1x588x1024.size inb_S1x588x1024_S1x588x1024_0_0_0).toLoadRect (harg2.unread x1))
        (arg3.view.readAt (Elt F) (Rect.unit (s := S256x256) ![0, 0] S256x256.size inb_S256x256_S256x256_0_0).toLoadRect (harg3.unread x2))⟩] := by
  sl_kernel_rfl

set_option maxHeartbeats 2000000 in
/-- What a later grid point stores. -/
theorem kernelRun0_B_fst (c : Dev nD) (i : grid0.Coords) (arg1 : Memref sig .tc .vmem S2048x588 .f32) (harg1 : arg1.IsWhole) (arg2 : Memref sig .tc .vmem S1x588x1024 .f32) (harg2 : arg2.IsWhole) (arg3 : Memref sig .tc .vmem S256x256 .f32) (harg3 : arg3.IsWhole) (arg4 : Memref sig .tc .vmem S256x8 .f32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x588 .f32) (x1 : Vec F S1x588x1024 .f32) (x2 : Vec F S256x256 .f32) (xo3 : Vec F S256x8 .f32)  :
    (kernelRun0_B c i arg1 harg1 arg2 harg2 arg3 harg3 arg4 harg4 arg5 harg5 arg6 harg6 hc0 hc1 x0 x1 x2 xo3).1 =
      [⟨Rect.unit (s := S256x8) ![0, 0] S256x8.size inb_S256x8_S256x8_0_0,
        addf (shapeCast S256x8 (arg4.view.readAt (Elt F) (Rect.unit (s := S256x8) ![0, 0] S256x8.size inb_S256x8_S256x8_0_0).toLoadRect (harg4.unread xo3)) shapeCasts_S256x8_S256x8)
          (fusedVal arg5 arg6
        (arg1.view.readAt (Elt F) (Rect.unit (s := S2048x588) ![0, 0] S2048x588.size inb_S2048x588_S2048x588_0_0).toLoadRect (harg1.unread x0))
        (arg2.view.readAt (Elt F) (Rect.unit (s := S1x588x1024) ![0, 0, 0] S1x588x1024.size inb_S1x588x1024_S1x588x1024_0_0_0).toLoadRect (harg2.unread x1))
        (arg3.view.readAt (Elt F) (Rect.unit (s := S256x256) ![0, 0] S256x256.size inb_S256x256_S256x256_0_0).toLoadRect (harg3.unread x2)))⟩] := by
  sl_kernel_rfl

end Cert.KernelIdeal.Run
-- ==== Proof.TwoMin.lean ====
/-
  The two smallest values of a list of extended reals: the fold that keeps them, its independence of the order, the
  merge of two folds, and what it is on a sorted list.
-/
module

public import Idealize.ShloMosaic.PureOps.Ideal

@[expose] public section

namespace Cert.KernelIdeal.Run

/-- One step of keeping the two smallest values. -/
noncomputable def keep (m : EReal × EReal) (v : EReal) : EReal × EReal := (min m.1 v, min m.2 (max m.1 v))

/-- The two smallest values of a list, the top standing for a missing one. -/
noncomputable def two (l : List EReal) : EReal × EReal := l.foldl keep (⊤, ⊤)

/-- Two kept pairs merged. -/
noncomputable def mergeTwo (a b : EReal × EReal) : EReal × EReal := (min a.1 b.1, min (max a.1 b.1) (min a.2 b.2))

/-- Two values may be kept in either order. -/
theorem keep_comm (m : EReal × EReal) (v w : EReal) : keep (keep m v) w = keep (keep m w) v := by
  obtain ⟨a, b⟩ := m
  simp only [keep, Prod.mk.injEq]
  constructor
  · rw [min_assoc, min_comm v w, ← min_assoc]
  · have h : min (max a v) (max (min a v) w) = min (max a w) (max (min a w) v) := by
      rcases le_total a v with h1 | h1 <;> rcases le_total a w with h2 | h2 <;> rcases le_total v w with h3 | h3 <;>
        simp [h1, h2, h3] <;> first | exact le_antisymm (by assumption) (le_trans (by assumption) (by assumption)) | exact le_antisymm (le_trans ‹_› ‹_›) ‹_›
    rw [min_assoc, h, ← min_assoc]

instance : RightCommutative keep := ⟨keep_comm⟩

/-- The two smallest do not depend on the order of the list. -/
theorem two_perm {l l' : List EReal} (h : l.Perm l') : two l = two l' := h.foldl_eq _

/-- Merging with nothing seen changes nothing. -/
theorem mergeTwo_top (a : EReal × EReal) : mergeTwo a (⊤, ⊤) = (a.1, a.2) := by simp [mergeTwo]

/-- A value may be kept before or after the merge. -/
theorem mergeTwo_keep (a b : EReal × EReal) (v : EReal) : mergeTwo a (keep b v) = keep (mergeTwo a b) v := by
  obtain ⟨a1, a2⟩ := a
  obtain ⟨b1, b2⟩ := b
  simp only [mergeTwo, keep, Prod.mk.injEq]
  constructor
  · rw [min_assoc]
  · have h : min (max a1 (min b1 v)) (max b1 v) = min (max a1 b1) (max (min a1 b1) v) := by
      rcases le_total a1 b1 with h1 | h1 <;> rcases le_total a1 v with h2 | h2 <;> rcases le_total b1 v with h3 | h3 <;>
        simp [h1, h2, h3] <;> first | exact le_antisymm h3 (h1.trans h2) | exact le_antisymm (h3.trans h2) h1
    calc min (max a1 (min b1 v)) (min a2 (min b2 (max b1 v)))
        = min (min (max a1 (min b1 v)) (max b1 v)) (min a2 b2) := by
          ac_rfl
      _ = min (min (max a1 b1) (max (min a1 b1) v)) (min a2 b2) := by rw [h]
      _ = min (min (max a1 b1) (min a2 b2)) (max (min a1 b1) v) := by ac_rfl

/-- A list may be kept before or after the merge. -/
theorem mergeTwo_foldl (a : EReal × EReal) (l : List EReal) (b : EReal × EReal) :
    mergeTwo a (l.foldl keep b) = l.foldl keep (mergeTwo a b) := by
  induction l generalizing b with
  | nil => rfl
  | cons v l ih => rw [List.foldl_cons, List.foldl_cons, ih, mergeTwo_keep]

/-- Merging the pairs of two lists is the pair of the lists together. -/
theorem mergeTwo_two (l l' : List EReal) : mergeTwo (two l) (two l') = two (l ++ l') := by
  rw [two, two, two, mergeTwo_foldl, mergeTwo_top, List.foldl_append]

/-- Values no smaller than the two kept change nothing. -/
theorem foldl_keep_ge (a b : EReal) (l : List EReal) (hab : a ≤ b) (h : ∀ v ∈ l, b ≤ v) : l.foldl keep (a, b) = (a, b) := by
  induction l with
  | nil => rfl
  | cons v l ih =>
    have hv : b ≤ v := h v (by simp)
    rw [List.foldl_cons, show keep (a, b) v = (a, b) by simp [keep, hab.trans hv, hv]]
    exact ih fun w hw => h w (by simp [hw])

/-- On a list in increasing order they are its first two. -/
theorem two_sorted (a b : EReal) (l : List EReal) (hab : a ≤ b) (h : ∀ v ∈ l, b ≤ v) : two (a :: b :: l) = (a, b) := by
  have : keep (keep (⊤, ⊤) a) b = (a, b) := by simp [keep, hab]
  rw [two, List.foldl_cons, List.foldl_cons, this, foldl_keep_ge a b l hab h]

/-- A top in the list changes nothing. -/
theorem two_cons_top (l : List EReal) : two (⊤ :: l) = two l := by
  rw [two, List.foldl_cons, show keep (⊤, ⊤) ⊤ = (⊤, ⊤) by simp [keep]]; rfl

/-- A monotone function that fixes the top passes through. -/
theorem two_map (f : EReal → EReal) (hf : Monotone f) (ht : f ⊤ = ⊤) (l : List EReal) :
    two (l.map f) = (f (two l).1, f (two l).2) := by
  have h : ∀ (l : List EReal) (m : EReal × EReal), (l.map f).foldl keep (f m.1, f m.2) = (f (l.foldl keep m).1, f (l.foldl keep m).2) := by
    intro l
    induction l with
    | nil => intro m; rfl
    | cons v l ih =>
      intro m
      rw [List.map_cons, List.foldl_cons, List.foldl_cons, ← ih (keep m v)]
      congr 1
      simp [keep, hf.map_min, hf.map_max]
  have := h l (⊤, ⊤)
  simp only [ht] at this
  exact this

end Cert.KernelIdeal.Run
-- ==== Proof.PairsVal.lean ====
/-
  The fused body read at an index over the extended reals: every nearest distance is a minimum over the other image's
  tokens, and every column holds the scaled roots of the two smallest of them.
-/
module

public import proofs.«01_k».proof.Proof.Pairs
public import proofs.«01_k».proof.Proof.TwoMin
public import Idealize.ShloMosaic.Lib.Pointwise

@[expose] public section

namespace Cert.KernelIdeal.Run

open Cert.KernelIdeal.Gen
open Idealize.ShloMosaic Idealize.ShloMosaic.TcCoe Idealize.ShloMosaic.Tactic

/-- The named starting value is the top. -/
theorem named_big : (Named.named (F := Ideal) κ "big" (φ := .f32) 0x4E6E6B28#32 : EReal) = ⊤ := by
  rfl

/-- The word of 2. -/
theorem ofBits_two : Ideal.ofBits .f32 0x40000000#32 = 2 := by
  simp [Ideal.ofBits, Ideal.ieee, -EReal.coe_mul]; norm_num; rfl

/-- The word of 1/8. -/
theorem ofBits_eighth : Ideal.ofBits .f32 0x3E000000#32 = ((1 / 8 : ℝ) : EReal) := by
  simp [Ideal.ofBits, Ideal.ieee, -EReal.coe_mul]; norm_num

/-- The word of +∞. -/
theorem ofBits_inf : Ideal.ofBits .f32 0x7F800000#32 = ⊤ := by
  simp [Ideal.ofBits, Ideal.ieee]

/-- An entry of the column of squared norms. -/
theorem sqCol_at (x : FVec Ideal S256x1024 .f32) (p : Fin 256) (z : Fin 1) :
    sqCol x (ix2 p z) = ∑ k : Fin 1024, x (ix2 p k) * x (ix2 p k) := by
  pointwise [sqCol]

/-- An entry of the row of squared norms. -/
theorem sqRow_at (x : FVec Ideal S256x1024 .f32) (q : Fin 256) (z : Fin 1) :
    sqRow x (ix2 z q) = ∑ k : Fin 1024, x (ix2 q k) * x (ix2 q k) := by
  pointwise [sqRow, sqCol]

/-- The nearest token of `y` to a token of `x`. -/
theorem rowNear_at (x y : FVec Ideal S256x1024 .f32) (g : FVec Ideal S256x256 .f32) (p : Fin 256) (z : Fin 1) :
    rowNear x y g (ix2 p z) = (Finset.univ.fold min ⊤ fun q : Fin 256 => (∑ k : Fin 1024, y (ix2 q k) * y (ix2 q k)) - 2 * g (ix2 p q))
      + ∑ k : Fin 1024, x (ix2 p k) * x (ix2 p k) := by
  pointwise [rowNear, sqRow_at, sqCol_at, ofBits_two, ofBits_inf]

/-- The nearest token of `x` to a token of `y`. -/
theorem colNear_at (x y : FVec Ideal S256x1024 .f32) (g : FVec Ideal S256x256 .f32) (q : Fin 256) (z : Fin 1) :
    colNear x y g (ix2 z q) = (Finset.univ.fold min ⊤ fun p : Fin 256 => (∑ k : Fin 1024, x (ix2 p k) * x (ix2 p k)) - 2 * g (ix2 p q))
      + ∑ k : Fin 1024, y (ix2 q k) * y (ix2 q k) := by
  pointwise [colNear, sqRow_at, sqCol_at, ofBits_two, ofBits_inf]

/-- A list of stores holds one function: every store writes it, and together they cover the array. -/
def Holds (H : List (View.Piece (Elt Ideal) S2048x1024 .f32)) (G : Fin 2048 → Fin 1024 → EReal) : Prop :=
  (∀ pc ∈ H, ∀ y : pc.1.shape.Idx, pc.2 y = G (pc.1.emb y 0) (pc.1.emb y 1)) ∧ ∀ y : S2048x1024.Idx, ∃ pc ∈ H, y ∈ pc.1.set

/-- A load after such stores reads the function. -/
theorem Holds.readCov {H : List (View.Piece (Elt Ideal) S2048x1024 .f32)} {G : Fin 2048 → Fin 1024 → EReal} (h : Holds H G)
    (a : Memref sig .tc .vmem S2048x1024 .f32) (B : LoadRect S2048x1024) (j : B.shape.Idx) :
    a.view.readCov (Val := Elt Ideal) H B j = G (B.idx j 0) (B.idx j 1) := by
  rw [View.readCov_eq_canon']
  exact View.canon_apply_of_pieces (fun i : S2048x1024.Idx => (G (i 0) (i 1) : Elt Ideal .f32)) H h.1 _ (h.2 _)

/-- Row `p` of image `b` in the stacked array. -/
def rowOf (b : Fin 8) (p : Fin 256) : Fin 2048 := ⟨256 * b.val + p.val, by omega⟩

/-- A load of consecutive rows reads the function at the shifted row. -/
theorem Holds.rows {H : List (View.Piece (Elt Ideal) S2048x1024 .f32)} {G : Fin 2048 → Fin 1024 → EReal} (h : Holds H G)
    (a : Memref sig .tc .vmem S2048x1024 .f32) {o n : ℕ} (inb : ∀ d, (![o, 0] : Fin 2 → ℕ) d + (⟨2, ![n, 1024]⟩ : Shape).size d ≤ S2048x1024.size d)
    (p : Fin n) (k : Fin 1024) (r : Fin 2048) (hr : r.val = o + p.val) :
    a.view.readCov (Val := Elt Ideal) H (Rect.unit (s := S2048x1024) ![o, 0] (⟨2, ![n, 1024]⟩ : Shape).size inb).toLoadRect (ix2 p k) = G r k := by
  refine (h.readCov a _ _).trans (congrArg₂ G (Fin.ext ?_) (Fin.ext ?_))
  · rw [hr]; show o + 1 * p.val = _; omega
  · show 0 + 1 * k.val = _; omega

/-- Image `b`'s slab of the scratch array holds that image's features. -/
theorem slabs_at {H : List (View.Piece (Elt Ideal) S2048x1024 .f32)} {G : Fin 2048 → Fin 1024 → EReal} (h : Holds H G)
    (a : Memref sig .tc .vmem S2048x1024 .f32) (b : Fin 8) (p : Fin 256) (k : Fin 1024) :
    slabs (F := Ideal) a H b (ix2 p k) = G (rowOf b p) k := by
  match b with
  | 0 => exact h.rows a (n := 256) inb_S2048x1024_S256x1024_0_0 p k _ rfl
  | 1 => exact h.rows a (n := 256) inb_S2048x1024_S256x1024_256_0 p k _ rfl
  | 2 => exact h.rows a (n := 256) inb_S2048x1024_S256x1024_512_0 p k _ rfl
  | 3 => exact h.rows a (n := 256) inb_S2048x1024_S256x1024_768_0 p k _ rfl
  | 4 => exact h.rows a (n := 256) inb_S2048x1024_S256x1024_1024_0 p k _ rfl
  | 5 => exact h.rows a (n := 256) inb_S2048x1024_S256x1024_1280_0 p k _ rfl
  | 6 => exact h.rows a (n := 256) inb_S2048x1024_S256x1024_1536_0 p k _ rfl
  | 7 => exact h.rows a (n := 256) inb_S2048x1024_S256x1024_1792_0 p k _ rfl

/-- The products of image 0 with the images after it. -/
theorem gram0_at {H : List (View.Piece (Elt Ideal) S2048x1024 .f32)} {G : Fin 2048 → Fin 1024 → EReal} (h : Holds H G)
    (a : Memref sig .tc .vmem S2048x1024 .f32) (p : Fin 256) (n : Fin 1792) (r : Fin 2048) (hr : r.val = 256 + n.val) :
    gram0 (F := Ideal) a H (ix2 p n) = ∑ k : Fin 1024, G (rowOf 0 p) k * G r k := by
  pointwise [gram0]
  exact Finset.sum_congr rfl fun k _ => congrArg₂ (· * ·) (slabs_at h a 0 p k) (h.rows a (n := 1792) inb_S2048x1024_S1792x1024_256_0 n k r hr)

/-- The products of image 1 with the images after it. -/
theorem gram1_at {H : List (View.Piece (Elt Ideal) S2048x1024 .f32)} {G : Fin 2048 → Fin 1024 → EReal} (h : Holds H G)
    (a : Memref sig .tc .vmem S2048x1024 .f32) (p : Fin 256) (n : Fin 1536) (r : Fin 2048) (hr : r.val = 512 + n.val) :
    gram1 (F := Ideal) a H (ix2 p n) = ∑ k : Fin 1024, G (rowOf 1 p) k * G r k := by
  pointwise [gram1]
  exact Finset.sum_congr rfl fun k _ => congrArg₂ (· * ·) (slabs_at h a 1 p k) (h.rows a (n := 1536) inb_S2048x1024_S1536x1024_512_0 n k r hr)

/-- The products of image 2 with the images after it. -/
theorem gram2_at {H : List (View.Piece (Elt Ideal) S2048x1024 .f32)} {G : Fin 2048 → Fin 1024 → EReal} (h : Holds H G)
    (a : Memref sig .tc .vmem S2048x1024 .f32) (p : Fin 256) (n : Fin 1280) (r : Fin 2048) (hr : r.val = 768 + n.val) :
    gram2 (F := Ideal) a H (ix2 p n) = ∑ k : Fin 1024, G (rowOf 2 p) k * G r k := by
  pointwise [gram2]
  exact Finset.sum_congr rfl fun k _ => congrArg₂ (· * ·) (slabs_at h a 2 p k) (h.rows a (n := 1280) inb_S2048x1024_S1280x1024_768_0 n k r hr)

/-- The products of image 3 with the images after it. -/
theorem gram3_at {H : List (View.Piece (Elt Ideal) S2048x1024 .f32)} {G : Fin 2048 → Fin 1024 → EReal} (h : Holds H G)
    (a : Memref sig .tc .vmem S2048x1024 .f32) (p : Fin 256) (n : Fin 1024) (r : Fin 2048) (hr : r.val = 1024 + n.val) :
    gram3 (F := Ideal) a H (ix2 p n) = ∑ k : Fin 1024, G (rowOf 3 p) k * G r k := by
  pointwise [gram3]
  exact Finset.sum_congr rfl fun k _ => congrArg₂ (· * ·) (slabs_at h a 3 p k) (h.rows a (n := 1024) inb_S2048x1024_S1024x1024_1024_0 n k r hr)

/-- The products of image 4 with the images after it. -/
theorem gram4_at {H : List (View.Piece (Elt Ideal) S2048x1024 .f32)} {G : Fin 2048 → Fin 1024 → EReal} (h : Holds H G)
    (a : Memref sig .tc .vmem S2048x1024 .f32) (p : Fin 256) (n : Fin 768) (r : Fin 2048) (hr : r.val = 1280 + n.val) :
    gram4 (F := Ideal) a H (ix2 p n) = ∑ k : Fin 1024, G (rowOf 4 p) k * G r k := by
  pointwise [gram4]
  exact Finset.sum_congr rfl fun k _ => congrArg₂ (· * ·) (slabs_at h a 4 p k) (h.rows a (n := 768) inb_S2048x1024_S768x1024_1280_0 n k r hr)

/-- The products of image 5 with the images after it. -/
theorem gram5_at {H : List (View.Piece (Elt Ideal) S2048x1024 .f32)} {G : Fin 2048 → Fin 1024 → EReal} (h : Holds H G)
    (a : Memref sig .tc .vmem S2048x1024 .f32) (p : Fin 256) (n : Fin 512) (r : Fin 2048) (hr : r.val = 1536 + n.val) :
    gram5 (F := Ideal) a H (ix2 p n) = ∑ k : Fin 1024, G (rowOf 5 p) k * G r k := by
  pointwise [gram5]
  exact Finset.sum_congr rfl fun k _ => congrArg₂ (· * ·) (slabs_at h a 5 p k) (h.rows a (n := 512) inb_S2048x1024_S512x1024_1536_0 n k r hr)

/-- The products of image 6 with the images after it. -/
theorem gram6_at {H : List (View.Piece (Elt Ideal) S2048x1024 .f32)} {G : Fin 2048 → Fin 1024 → EReal} (h : Holds H G)
    (a : Memref sig .tc .vmem S2048x1024 .f32) (p : Fin 256) (n : Fin 256) (r : Fin 2048) (hr : r.val = 1792 + n.val) :
    gram6 (F := Ideal) a H (ix2 p n) = ∑ k : Fin 1024, G (rowOf 6 p) k * G r k := by
  pointwise [gram6]
  exact Finset.sum_congr rfl fun k _ => congrArg₂ (· * ·) (slabs_at h a 6 p k) (h.rows a (n := 256) inb_S2048x1024_S256x1024_1792_0 n k r hr)

/-- A slice of 256 columns, read in place. -/
theorem slice_at {n o : ℕ} (g : FVec Ideal (⟨2, ![256, n]⟩ : Shape) .f32) (hs : (⟨2, ![256, n]⟩ : Shape).Slices ![0, o] S256x256) (p q : Fin 256) (h : o + q.val < n) :
    extractStridedSlice S256x256 ![0, o] g hs (ix2 p q) = g (ix2 p ⟨o + q.val, h⟩) := by
  pointwise
  refine congrArg g (funext fun d => ?_)
  match d with
  | 0 => exact Fin.ext (Nat.zero_add p.val)
  | 1 => rfl

/-- The products kept for a pair of images are those of their features. -/
theorem grams_at {H : List (View.Piece (Elt Ideal) S2048x1024 .f32)} {G : Fin 2048 → Fin 1024 → EReal} (h : Holds H G)
    (a : Memref sig .tc .vmem S2048x1024 .f32) (b c : Fin 8) (hbc : b < c) (p q : Fin 256) :
    grams (F := Ideal) a H b c (ix2 p q) = ∑ k : Fin 1024, G (rowOf b p) k * G (rowOf c q) k := by
  match b, c, hbc with
  | 0, 0, hh => exact absurd hh (by decide)
  | 0, 1, _ => exact (slice_at (n := 1792) (o := 0) (gram0 a H) slices_S256x1792_o0_0_S256x256 p q (by omega)).trans (gram0_at h a p _ (rowOf 1 q) (by simp [rowOf]; try omega))
  | 0, 2, _ => exact (slice_at (n := 1792) (o := 256) (gram0 a H) slices_S256x1792_o0_256_S256x256 p q (by omega)).trans (gram0_at h a p _ (rowOf 2 q) (by simp [rowOf]; try omega))
  | 0, 3, _ => exact (slice_at (n := 1792) (o := 512) (gram0 a H) slices_S256x1792_o0_512_S256x256 p q (by omega)).trans (gram0_at h a p _ (rowOf 3 q) (by simp [rowOf]; try omega))
  | 0, 4, _ => exact (slice_at (n := 1792) (o := 768) (gram0 a H) slices_S256x1792_o0_768_S256x256 p q (by omega)).trans (gram0_at h a p _ (rowOf 4 q) (by simp [rowOf]; try omega))
  | 0, 5, _ => exact (slice_at (n := 1792) (o := 1024) (gram0 a H) slices_S256x1792_o0_1024_S256x256 p q (by omega)).trans (gram0_at h a p _ (rowOf 5 q) (by simp [rowOf]; try omega))
  | 0, 6, _ => exact (slice_at (n := 1792) (o := 1280) (gram0 a H) slices_S256x1792_o0_1280_S256x256 p q (by omega)).trans (gram0_at h a p _ (rowOf 6 q) (by simp [rowOf]; try omega))
  | 0, 7, _ => exact (slice_at (n := 1792) (o := 1536) (gram0 a H) slices_S256x1792_o0_1536_S256x256 p q (by omega)).trans (gram0_at h a p _ (rowOf 7 q) (by simp [rowOf]; try omega))
  | 1, 0, hh => exact absurd hh (by decide)
  | 1, 1, hh => exact absurd hh (by decide)
  | 1, 2, _ => exact (slice_at (n := 1536) (o := 0) (gram1 a H) slices_S256x1536_o0_0_S256x256 p q (by omega)).trans (gram1_at h a p _ (rowOf 2 q) (by simp [rowOf]; try omega))
  | 1, 3, _ => exact (slice_at (n := 1536) (o := 256) (gram1 a H) slices_S256x1536_o0_256_S256x256 p q (by omega)).trans (gram1_at h a p _ (rowOf 3 q) (by simp [rowOf]; try omega))
  | 1, 4, _ => exact (slice_at (n := 1536) (o := 512) (gram1 a H) slices_S256x1536_o0_512_S256x256 p q (by omega)).trans (gram1_at h a p _ (rowOf 4 q) (by simp [rowOf]; try omega))
  | 1, 5, _ => exact (slice_at (n := 1536) (o := 768) (gram1 a H) slices_S256x1536_o0_768_S256x256 p q (by omega)).trans (gram1_at h a p _ (rowOf 5 q) (by simp [rowOf]; try omega))
  | 1, 6, _ => exact (slice_at (n := 1536) (o := 1024) (gram1 a H) slices_S256x1536_o0_1024_S256x256 p q (by omega)).trans (gram1_at h a p _ (rowOf 6 q) (by simp [rowOf]; try omega))
  | 1, 7, _ => exact (slice_at (n := 1536) (o := 1280) (gram1 a H) slices_S256x1536_o0_1280_S256x256 p q (by omega)).trans (gram1_at h a p _ (rowOf 7 q) (by simp [rowOf]; try omega))
  | 2, 0, hh => exact absurd hh (by decide)
  | 2, 1, hh => exact absurd hh (by decide)
  | 2, 2, hh => exact absurd hh (by decide)
  | 2, 3, _ => exact (slice_at (n := 1280) (o := 0) (gram2 a H) slices_S256x1280_o0_0_S256x256 p q (by omega)).trans (gram2_at h a p _ (rowOf 3 q) (by simp [rowOf]; try omega))
  | 2, 4, _ => exact (slice_at (n := 1280) (o := 256) (gram2 a H) slices_S256x1280_o0_256_S256x256 p q (by omega)).trans (gram2_at h a p _ (rowOf 4 q) (by simp [rowOf]; try omega))
  | 2, 5, _ => exact (slice_at (n := 1280) (o := 512) (gram2 a H) slices_S256x1280_o0_512_S256x256 p q (by omega)).trans (gram2_at h a p _ (rowOf 5 q) (by simp [rowOf]; try omega))
  | 2, 6, _ => exact (slice_at (n := 1280) (o := 768) (gram2 a H) slices_S256x1280_o0_768_S256x256 p q (by omega)).trans (gram2_at h a p _ (rowOf 6 q) (by simp [rowOf]; try omega))
  | 2, 7, _ => exact (slice_at (n := 1280) (o := 1024) (gram2 a H) slices_S256x1280_o0_1024_S256x256 p q (by omega)).trans (gram2_at h a p _ (rowOf 7 q) (by simp [rowOf]; try omega))
  | 3, 0, hh => exact absurd hh (by decide)
  | 3, 1, hh => exact absurd hh (by decide)
  | 3, 2, hh => exact absurd hh (by decide)
  | 3, 3, hh => exact absurd hh (by decide)
  | 3, 4, _ => exact (slice_at (n := 1024) (o := 0) (gram3 a H) slices_S256x1024_o0_0_S256x256 p q (by omega)).trans (gram3_at h a p _ (rowOf 4 q) (by simp [rowOf]; try omega))
  | 3, 5, _ => exact (slice_at (n := 1024) (o := 256) (gram3 a H) slices_S256x1024_o0_256_S256x256 p q (by omega)).trans (gram3_at h a p _ (rowOf 5 q) (by simp [rowOf]; try omega))
  | 3, 6, _ => exact (slice_at (n := 1024) (o := 512) (gram3 a H) slices_S256x1024_o0_512_S256x256 p q (by omega)).trans (gram3_at h a p _ (rowOf 6 q) (by simp [rowOf]; try omega))
  | 3, 7, _ => exact (slice_at (n := 1024) (o := 768) (gram3 a H) slices_S256x1024_o0_768_S256x256 p q (by omega)).trans (gram3_at h a p _ (rowOf 7 q) (by simp [rowOf]; try omega))
  | 4, 0, hh => exact absurd hh (by decide)
  | 4, 1, hh => exact absurd hh (by decide)
  | 4, 2, hh => exact absurd hh (by decide)
  | 4, 3, hh => exact absurd hh (by decide)
  | 4, 4, hh => exact absurd hh (by decide)
  | 4, 5, _ => exact (slice_at (n := 768) (o := 0) (gram4 a H) slices_S256x768_o0_0_S256x256 p q (by omega)).trans (gram4_at h a p _ (rowOf 5 q) (by simp [rowOf]; try omega))
  | 4, 6, _ => exact (slice_at (n := 768) (o := 256) (gram4 a H) slices_S256x768_o0_256_S256x256 p q (by omega)).trans (gram4_at h a p _ (rowOf 6 q) (by simp [rowOf]; try omega))
  | 4, 7, _ => exact (slice_at (n := 768) (o := 512) (gram4 a H) slices_S256x768_o0_512_S256x256 p q (by omega)).trans (gram4_at h a p _ (rowOf 7 q) (by simp [rowOf]; try omega))
  | 5, 0, hh => exact absurd hh (by decide)
  | 5, 1, hh => exact absurd hh (by decide)
  | 5, 2, hh => exact absurd hh (by decide)
  | 5, 3, hh => exact absurd hh (by decide)
  | 5, 4, hh => exact absurd hh (by decide)
  | 5, 5, hh => exact absurd hh (by decide)
  | 5, 6, _ => exact (slice_at (n := 512) (o := 0) (gram5 a H) slices_S256x512_o0_0_S256x256 p q (by omega)).trans (gram5_at h a p _ (rowOf 6 q) (by simp [rowOf]; try omega))
  | 5, 7, _ => exact (slice_at (n := 512) (o := 256) (gram5 a H) slices_S256x512_o0_256_S256x256 p q (by omega)).trans (gram5_at h a p _ (rowOf 7 q) (by simp [rowOf]; try omega))
  | 6, 0, hh => exact absurd hh (by decide)
  | 6, 1, hh => exact absurd hh (by decide)
  | 6, 2, hh => exact absurd hh (by decide)
  | 6, 3, hh => exact absurd hh (by decide)
  | 6, 4, hh => exact absurd hh (by decide)
  | 6, 5, hh => exact absurd hh (by decide)
  | 6, 6, hh => exact absurd hh (by decide)
  | 6, 7, _ => exact gram6_at h a p q (rowOf 7 q) (by simp [rowOf])
  | 7, 0, hh => exact absurd hh (by decide)
  | 7, 1, hh => exact absurd hh (by decide)
  | 7, 2, hh => exact absurd hh (by decide)
  | 7, 3, hh => exact absurd hh (by decide)
  | 7, 4, hh => exact absurd hh (by decide)
  | 7, 5, hh => exact absurd hh (by decide)
  | 7, 6, hh => exact absurd hh (by decide)
  | 7, 7, hh => exact absurd hh (by decide)

/-- The two smallest vectors hold, at every place, the two smallest entries. -/
theorem twoSmallest_at {s : Shape} (l : List (FVec Ideal s .f32)) (i : s.Idx) :
    ((twoSmallest l).1 i, (twoSmallest l).2 i) = two (l.map fun v => v i) := by
  have h : ∀ (l : List (FVec Ideal s .f32)) (m : FVec Ideal s .f32 × FVec Ideal s .f32),
      ((l.foldl keepTwo m).1 i, (l.foldl keepTwo m).2 i) = (l.map fun v => v i).foldl keep (m.1 i, m.2 i) := by
    intro l
    induction l with
    | nil => intro m; rfl
    | cons v l ih => intro m; rw [List.foldl_cons, List.map_cons, List.foldl_cons, ih]; rfl
  exact h l _

/-- The root of a distance, kept from zero by the small constant. -/
noncomputable def dist (d : EReal) : EReal := Ideal.sqrt (max d (Ideal.ofBits .f32 0x2B8CBCCC#32))

/-- A column entry: the scaled roots of the two smallest of all the distances. -/
theorem scoreCol_at (rs : List (FVec Ideal S256x1 .f32)) (cs : List (FVec Ideal S1x256 .f32)) (p : Fin 256) (z : Fin 1) :
    scoreCol rs cs (ix2 p z) = (dist (two ((rs.map fun v => v (ix2 p z)) ++ cs.map fun v => v (ix2 z p))).1
      + dist (two ((rs.map fun v => v (ix2 p z)) ++ cs.map fun v => v (ix2 z p))).2) * ((1 / 8 : ℝ) : EReal) := by
  obtain rfl : z = 0 := Subsingleton.elim _ _
  rw [← mergeTwo_two, ← twoSmallest_at, ← twoSmallest_at]
  pointwise [scoreCol, ofBits_eighth]
  rfl

/-- What an entry of the eight columns is, over the function `G` the scratch holds. -/
noncomputable def near (G : Fin 2048 → Fin 1024 → EReal) (b c : Fin 8) (p : Fin 256) : EReal :=
  (Finset.univ.fold min ⊤ fun q : Fin 256 => (∑ k : Fin 1024, G (rowOf c q) k * G (rowOf c q) k) - 2 * ∑ k : Fin 1024, G (rowOf b p) k * G (rowOf c q) k)
    + ∑ k : Fin 1024, G (rowOf b p) k * G (rowOf b p) k

/-- The distances of token `p` of image `b` to every other image. -/
noncomputable def nears (G : Fin 2048 → Fin 1024 → EReal) (b : Fin 8) (p : Fin 256) : List EReal :=
  (((List.finRange 8).filter (b < ·)) ++ ((List.finRange 8).filter (· < b))).map fun c => near G b c p

/-- One image's share of the score: the scaled roots of its two smallest distances. -/
noncomputable def share (G : Fin 2048 → Fin 1024 → EReal) (b : Fin 8) (p : Fin 256) : EReal :=
  (dist (two (nears G b p)).1 + dist (two (nears G b p)).2) * ((1 / 8 : ℝ) : EReal)

/-- The column of an image holds the scores of its tokens against all other images. -/
theorem imageCol_at {H : List (View.Piece (Elt Ideal) S2048x1024 .f32)} {G : Fin 2048 → Fin 1024 → EReal} (h : Holds H G)
    (a : Memref sig .tc .vmem S2048x1024 .f32) (b : Fin 8) (p : Fin 256) (z : Fin 1) :
    imageCol (F := Ideal) (slabs a H) (grams a H) b ((List.finRange 8).filter (b < ·)) ((List.finRange 8).filter (· < b)) (ix2 p z) = share G b p := by
  have e : ((((List.finRange 8).filter (b < ·)).map fun c => rowNear (F := Ideal) (slabs a H b) (slabs a H c) (grams a H b c)).map fun v => v (ix2 p z))
      ++ ((((List.finRange 8).filter (· < b)).map fun c => colNear (F := Ideal) (slabs a H c) (slabs a H b) (grams a H c b)).map fun v => v (ix2 z p))
      = nears G b p := by
    rw [nears, List.map_append, List.map_map, List.map_map]
    refine congrArg₂ (· ++ ·) ?_ ?_
    · refine List.map_congr_left fun c hc => ?_
      have hbc : b < c := by simpa using hc
      simp only [Function.comp_apply]
      rw [rowNear_at]
      simp only [slabs_at h, grams_at h a b c hbc]
      rfl
    · refine List.map_congr_left fun c hc => ?_
      have hbc : c < b := by simpa using hc
      simp only [Function.comp_apply]
      rw [colNear_at]
      simp only [slabs_at h, grams_at h a c b hbc, near]
      simp only [mul_comm]
  rw [imageCol, scoreCol_at, e]
  rfl

/-- The eight columns, read at a token and an image. -/
theorem allCols_at {H : List (View.Piece (Elt Ideal) S2048x1024 .f32)} {G : Fin 2048 → Fin 1024 → EReal} (h : Holds H G)
    (a : Memref sig .tc .vmem S2048x1024 .f32) (p : Fin 256) (b : Fin 8) :
    allCols (F := Ideal) (slabs a H) (grams a H) (ix2 p b) = share G b p := by
  rw [← imageCol_at h a b p 0]
  match b with
  | 0 => pointwise [allCols]; rfl
  | 1 => pointwise [allCols]; rfl
  | 2 => pointwise [allCols]; rfl
  | 3 => pointwise [allCols]; rfl
  | 4 => pointwise [allCols]; rfl
  | 5 => pointwise [allCols]; rfl
  | 6 => pointwise [allCols]; rfl
  | 7 => pointwise [allCols]; rfl

end Cert.KernelIdeal.Run
-- ==== Proof.Scores.lean ====
module

public import proofs.«01_k».proof.Proof.PairsVal
public import proofs.«01_k».proof.Proof.Tables
public import Idealize.ShloMosaic.Lib.SortFacts

@[expose] public section

/-! # The score of a token, from distances taken and sorted in the plain order -/

namespace Cert.KernelIdeal.Run

open Idealize.ShloMosaic

/-- The root of the clamped value is monotone. -/
theorem dist_mono : Monotone dist := fun a b h => by
  have hs : ∀ x y : EReal, x ≤ y → Ideal.sqrt x ≤ Ideal.sqrt y := fun x y h => by
    induction x using EReal.rec with
    | bot => simp
    | top => rw [top_le_iff.mp h]
    | coe x =>
      induction y using EReal.rec with
      | bot => simp at h
      | top => simp
      | coe y =>
        have h' : x ≤ y := EReal.coe_le_coe_iff.mp h
        rw [Ideal.sqrt_coe, Ideal.sqrt_coe]
        by_cases hx : x < 0
        · rw [if_pos hx]; exact bot_le
        · rw [if_neg hx, if_neg (by linarith [not_lt.mp hx])]
          exact EReal.coe_le_coe_iff.mpr (Real.sqrt_le_sqrt h')
  exact hs _ _ (max_le_max h le_rfl)

/-- An infinite squared distance is an infinite distance. -/
theorem dist_top : dist ⊤ = ⊤ := by
  rw [dist, max_eq_left le_top, Ideal.sqrt_top]

/-- No square is negative. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- The least of the distances is the distance of the least. -/
theorem least_eq (G : Fin 2048 → Fin 1024 → EReal) (b c : Fin 8) (p : Fin 256) :
    (Finset.univ.fold min ⊤ fun q : Fin 256 => Ideal.sqrt (max ((∑ k, G (rowOf b p) k * G (rowOf b p) k) + (∑ k, G (rowOf c q) k * G (rowOf c q) k)
      - 2 * ∑ k, G (rowOf c q) k * G (rowOf b p) k) (Ideal.ofBits .f32 0x2B8CBCCC#32))) = dist (near G b c p) := by
  have hA : (0 : EReal) ≤ ∑ k, G (rowOf b p) k * G (rowOf b p) k := Finset.sum_nonneg fun k _ => square_nonneg _
  unfold near
  generalize hAe : (∑ k, G (rowOf b p) k * G (rowOf b p) k) = A at hA ⊢
  have hm : Monotone fun z : EReal => dist (z + A) := fun x y h => dist_mono (add_le_add_left h A)
  have ht : dist (⊤ + A) = ⊤ := by
    rw [EReal.top_add_of_ne_bot (fun h => by simp [h] at hA), dist_top]
  have := Finset.fold_hom (op := min) (op' := min) (m := fun z : EReal => dist (z + A)) (fun x y => hm.map_min) (s := (Finset.univ : Finset (Fin 256))) (b := (⊤ : EReal))
    (f := fun q : Fin 256 => (∑ k : Fin 1024, G (rowOf c q) k * G (rowOf c q) k) - 2 * ∑ k : Fin 1024, G (rowOf b p) k * G (rowOf c q) k)
  rw [ht] at this
  refine Eq.trans (Finset.fold_congr fun q _ => ?_) this
  have e : (∑ k, G (rowOf c q) k * G (rowOf b p) k) = ∑ k, G (rowOf b p) k * G (rowOf c q) k := Finset.sum_congr rfl fun k _ => mul_comm _ _
  rw [e]
  unfold dist
  rw [sub_eq_add_neg, sub_eq_add_neg, add_assoc, add_comm A]

/-- An image is itself together with the later ones and the earlier ones. -/
theorem images_perm (b : Fin 8) : (List.finRange 8).Perm (b :: (((List.finRange 8).filter (b < ·)) ++ ((List.finRange 8).filter (· < b)))) := by
  revert b; decide

/-- With the image itself masked, the two smallest distances are those to the others. -/
theorem two_masked (G : Fin 2048 → Fin 1024 → EReal) (b : Fin 8) (p : Fin 256) :
    two ((List.finRange 8).map fun c => if b = c then ⊤ else dist (near G b c p)) = (dist (two (nears G b p)).1, dist (two (nears G b p)).2) := by
  rw [two_perm ((images_perm b).map _), List.map_cons, if_pos rfl, two_cons_top, ← two_map dist dist_mono dist_top, nears, List.map_map]
  congr 1
  refine List.map_congr_left fun c hc => ?_
  have : b ≠ c := by
    rcases List.mem_append.mp hc with h | h
    · exact ne_of_lt (by simpa using (List.mem_filter.mp h).2)
    · exact (ne_of_lt (by simpa using (List.mem_filter.mp h).2)).symm
  rw [if_neg this]; rfl

/-- Sorted increasingly, a row of eight starts with its two smallest. -/
theorem sorted_two (N : Fin 8 → EReal) (before : Fin 8 → Fin 8 → Bool) (hb : ∀ a b, before a b = decide (N a < N b)) :
    (N (sortedFrom before 0), N (sortedFrom before 1)) = two ((List.finRange 8).map N) := by
  have hs : ∀ i j : Fin 8, i < j → N (sortedFrom before i) ≤ N (sortedFrom before j) := fun i j hij => by
    have h := sortedFrom_noInversion before before (fun a b h => ?_) (fun a b h => h) (fun a b c h h' => ?_) i j hij
    · rw [hb] at h; exact not_lt.mp (of_decide_eq_false h)
    · rw [hb] at h ⊢; exact decide_eq_false (not_lt.mpr (le_of_lt (of_decide_eq_true h)))
    · rw [hb] at h h' ⊢
      exact decide_eq_false (not_lt.mpr ((not_lt.mp (of_decide_eq_false h')).trans (not_lt.mp (of_decide_eq_false h))))
  have hp : ((List.finRange 8).map (sortedFrom before)).Perm (List.finRange 8) :=
    (List.perm_ext_iff_of_nodup ((List.nodup_finRange 8).map (sortedFrom_injective before)) (List.nodup_finRange 8)).2 fun a => by
      obtain ⟨k, hk⟩ := sortedFrom_surjective before a
      simp only [List.mem_finRange, iff_true]
      exact List.mem_map.mpr ⟨k, List.mem_finRange k, hk⟩
  rw [← two_perm (hp.map N), List.map_map]
  have e : (List.finRange 8).map (N ∘ sortedFrom before) = N (sortedFrom before 0) :: N (sortedFrom before 1) ::
      (([2, 3, 4, 5, 6, 7] : List (Fin 8)).map (N ∘ sortedFrom before)) := rfl
  rw [e, two_sorted _ _ _ (hs 0 1 (by decide))]
  intro v hv
  obtain ⟨j, hj, rfl⟩ := List.mem_map.mp hv
  have : (1 : Fin 8) < j := (by decide : ∀ j ∈ ([2, 3, 4, 5, 6, 7] : List (Fin 8)), (1 : Fin 8) < j) j hj
  exact hs 1 j this

/-- Dividing by two is multiplying by one half. -/
theorem div_two (x : EReal) : Ideal.div x 2 = x * ((1 / 2 : ℝ) : EReal) := Ideal.div_coe (y := 2) (by norm_num) x

/-- The means over the two neighbours, the two layers and the two window sizes are one factor. -/
theorem means_eq (a b : Fin 2 → EReal) :
    Ideal.div (Ideal.div (∑ l, Ideal.div (a l) 2) 2 + Ideal.div (∑ l, Ideal.div (b l) 2) 2) 2
      = (a 0 * ((1 / 8 : ℝ) : EReal) + b 0 * ((1 / 8 : ℝ) : EReal)) + (a 1 * ((1 / 8 : ℝ) : EReal) + b 1 * ((1 / 8 : ℝ) : EReal)) := by
  have hd : ∀ x y : EReal, (x + y) * ((1 / 2 : ℝ) : EReal) = x * ((1 / 2 : ℝ) : EReal) + y * ((1 / 2 : ℝ) : EReal) := fun x y => by
    have := Cert.Tables.sum_scale (fun i : Fin 2 => if i = 0 then x else y) (1 / 2) (by norm_num)
    simpa [Fin.sum_univ_two] using this
  have hm : ∀ x : EReal, x * ((1 / 2 : ℝ) : EReal) * ((1 / 2 : ℝ) : EReal) * ((1 / 2 : ℝ) : EReal) = x * ((1 / 8 : ℝ) : EReal) := fun x => by
    rw [mul_assoc, mul_assoc, ← EReal.coe_mul, ← EReal.coe_mul]; norm_num
  simp only [div_two, Fin.sum_univ_two, hd, hm]
  rw [add_add_add_comm]

end Cert.KernelIdeal.Run
-- ==== Proof.Region0Val.lean ====
/-
  What the first call leaves in its result array: for each token and image, the shares of the two projections, for the
  projected features and for their pooled neighbours, summed.
-/
module

public import proofs.«01_k».proof.Proof.PairsVal
public import Idealize.ShloMosaic.Lib.WholeRead

@[expose] public section

namespace Cert.KernelIdeal.Run

open Cert.KernelIdeal.Gen
open Idealize.ShloMosaic Idealize.ShloMosaic.TcCoe Idealize.ShloMosaic.Tactic
open Idealize.ShloMosaic.Pipeline (Dat Cfg Window)

/-- The projected features of the stacked tokens. -/
noncomputable def feat (t : Fin 2048 → Fin 588 → EReal) (w : Fin 588 → Fin 1024 → EReal) (r : Fin 2048) (k : Fin 1024) : EReal :=
  ∑ i : Fin 588, t r i * w i k

/-- The image a stacked row belongs to. -/
def imgOf (r : Fin 2048) : Fin 8 := ⟨r.val / 256, by omega⟩
/-- The token of its image a stacked row is. -/
def tokOf (r : Fin 2048) : Fin 256 := ⟨r.val % 256, by omega⟩

/-- The features of every image multiplied by the pooling matrix. -/
noncomputable def pool (a : Fin 256 → Fin 256 → EReal) (f : Fin 2048 → Fin 1024 → EReal) (r : Fin 2048) (k : Fin 1024) : EReal :=
  ∑ q : Fin 256, a (tokOf r) q * f (rowOf (imgOf r) q) k

/-- A pooled feature is a row of the table times the image's features. -/
theorem pay4_at (a : FVec Ideal S256x256 .f32) (f : FVec Ideal S256x1024 .f32) (p : Fin 256) (k : Fin 1024) :
    k0_pay4 (F := Ideal) a f (ix2 p k) = ∑ q : Fin 256, a (ix2 p q) * f (ix2 q k) := by
  pointwise [k0_pay4]

/-- A feature is a token times the projection. -/
theorem pay3_at (t : FVec Ideal S2048x588 .f32) (w : FVec Ideal S1x588x1024 .f32) (r : Fin 2048) (k : Fin 1024) :
    k0_pay3 (F := Ideal) t w (ix2 r k) = ∑ i : Fin 588, t (ix2 r i) * w (ix3 0 i k) := by
  pointwise [k0_pay3]

/-- The first scratch array holds the features. -/
theorem holds_feat (t : FVec Ideal S2048x588 .f32) (w : FVec Ideal S1x588x1024 .f32) :
    Holds (featPieces (F := Ideal) t w) (feat (fun r i => t (ix2 r i)) (fun i k => w (ix3 0 i k))) := by
  refine ⟨fun pc hpc y => ?_, fun y => View.cover_of_tiledL (featPieces (F := Ideal) t w) S2048x1024.size (by sl_kernel_rfl) y⟩
  obtain rfl := List.mem_singleton.mp hpc
  have h0 : (Rect.unit (s := S2048x1024) ![0, 0] S2048x1024.size inb_S2048x1024_S2048x1024_0_0).emb y 0 = y 0 := Fin.ext (by show 0 + 1 * (y 0).val = _; omega)
  have h1 : (Rect.unit (s := S2048x1024) ![0, 0] S2048x1024.size inb_S2048x1024_S2048x1024_0_0).emb y 1 = y 1 := Fin.ext (by show 0 + 1 * (y 1).val = _; omega)
  rw [h0, h1]
  exact (congrArg (k0_pay3 (F := Ideal) t w) (eq_ix2 (n0 := 2048) (n1 := 1024) y)).trans (pay3_at t w (y 0) (y 1))

/-- One store of the pooled features writes its image's rows. -/
theorem pool_piece (a : FVec Ideal S256x256 .f32) (f : Fin 8 → FVec Ideal S256x1024 .f32) (G : Fin 2048 → Fin 1024 → EReal)
    (hf : ∀ b p k, f b (ix2 p k) = G (rowOf b p) k) (b : Fin 8) (o : ℕ) (ho : o = 256 * b.val)
    (inb : ∀ d, (![o, 0] : Fin 2 → ℕ) d + S256x1024.size d ≤ S2048x1024.size d) (y : S256x1024.Idx) :
    k0_pay4 (F := Ideal) a (f b) y = pool (fun p q => a (ix2 p q)) G ((Rect.unit (s := S2048x1024) ![o, 0] S256x1024.size inb).emb y 0)
      ((Rect.unit (s := S2048x1024) ![o, 0] S256x1024.size inb).emb y 1) := by
  have l0 : (y 0).val < 256 := (y 0).isLt
  have v0 : ((Rect.unit (s := S2048x1024) ![o, 0] S256x1024.size inb).emb y 0).val = 256 * b.val + (y 0).val := by
    subst ho; show 256 * b.val + 1 * (y 0).val = _; omega
  have h1 : (Rect.unit (s := S2048x1024) ![o, 0] S256x1024.size inb).emb y 1 = (y 1 : Fin 1024) := Fin.ext (by show 0 + 1 * (y 1).val = _; omega)
  have ht : tokOf ((Rect.unit (s := S2048x1024) ![o, 0] S256x1024.size inb).emb y 0) = (y 0 : Fin 256) := Fin.ext (by
    show ((Rect.unit (s := S2048x1024) ![o, 0] S256x1024.size inb).emb y 0).val % 256 = _; rw [v0]; omega)
  have hi : imgOf ((Rect.unit (s := S2048x1024) ![o, 0] S256x1024.size inb).emb y 0) = b := Fin.ext (by
    show ((Rect.unit (s := S2048x1024) ![o, 0] S256x1024.size inb).emb y 0).val / 256 = _; rw [v0]; omega)
  unfold pool
  rw [ht, hi, h1]
  refine ((congrArg (k0_pay4 (F := Ideal) a (f b)) (eq_ix2 (n0 := 256) (n1 := 1024) y)).trans (pay4_at a (f b) (y 0) (y 1))).trans ?_
  exact Finset.sum_congr rfl fun q _ => congrArg (a (ix2 (n0 := 256) (n1 := 256) (y 0) q) * ·) (hf b q (y 1))

/-- The second scratch array holds the pooled features. -/
theorem holds_pool (a : FVec Ideal S256x256 .f32) (f : Fin 8 → FVec Ideal S256x1024 .f32) (G : Fin 2048 → Fin 1024 → EReal)
    (hf : ∀ b p k, f b (ix2 p k) = G (rowOf b p) k) :
    Holds (poolPieces (F := Ideal) a f) (pool (fun p q => a (ix2 p q)) G) := by
  refine ⟨fun pc hpc y => ?_, fun y => View.cover_of_tiledL (poolPieces (F := Ideal) a f) S256x1024.size (by sl_kernel_rfl) y⟩
  simp only [poolPieces, List.mem_cons, List.not_mem_nil, or_false] at hpc
  rcases hpc with rfl | rfl | rfl | rfl | rfl | rfl | rfl | rfl
  · exact pool_piece a f G hf 7 1792 rfl inb_S2048x1024_S256x1024_1792_0 y
  · exact pool_piece a f G hf 6 1536 rfl inb_S2048x1024_S256x1024_1536_0 y
  · exact pool_piece a f G hf 5 1280 rfl inb_S2048x1024_S256x1024_1280_0 y
  · exact pool_piece a f G hf 4 1024 rfl inb_S2048x1024_S256x1024_1024_0 y
  · exact pool_piece a f G hf 3 768 rfl inb_S2048x1024_S256x1024_768_0 y
  · exact pool_piece a f G hf 2 512 rfl inb_S2048x1024_S256x1024_512_0 y
  · exact pool_piece a f G hf 1 256 rfl inb_S2048x1024_S256x1024_256_0 y
  · exact pool_piece a f G hf 0 0 rfl inb_S2048x1024_S256x1024_0_0 y

/-- What one grid point adds, from the tokens, the projection and the pooling matrix. -/
noncomputable def contrib (t : Fin 2048 → Fin 588 → EReal) (w : Fin 588 → Fin 1024 → EReal) (a : Fin 256 → Fin 256 → EReal) (b : Fin 8) (p : Fin 256) : EReal :=
  share (feat t w) b p + share (pool a (feat t w)) b p

/-- One layer's contribution: the scores of the features and of the pooled features, added. -/
theorem fusedVal_at (a5 a6 : Memref sig .tc .vmem S2048x1024 .f32) (t : FVec Ideal S2048x588 .f32) (w : FVec Ideal S1x588x1024 .f32)
    (a : FVec Ideal S256x256 .f32) (p : Fin 256) (b : Fin 8) :
    fusedVal (F := Ideal) a5 a6 t w a (ix2 p b) = contrib (fun r i => t (ix2 r i)) (fun i k => w (ix3 0 i k)) (fun p q => a (ix2 p q)) b p := by
  have h1 := holds_feat t w
  have h2 := holds_pool a (slabs (F := Ideal) a5 (featPieces t w)) _ (fun b p k => slabs_at h1 a5 b p k)
  show allCols (F := Ideal) _ _ (ix2 p b) + allCols (F := Ideal) _ _ (ix2 p b) = _
  rw [allCols_at h1, allCols_at h2]
  rfl

/-- One store over a whole small array leaves its value. -/
theorem read_whole8 (v : FVec Ideal S256x8 .f32) :
    VO0_3.read (Elt Ideal) (VO0_3.writes (Elt Ideal) VO0_3.junk [⟨Rect.unit (s := S256x8) ![0, 0] S256x8.size inb_S256x8_S256x8_0_0, v⟩]) = v := by
  funext j
  rw [View.read_writes_junk_apply_eq_canon, View.canon_unit_zero (S := S256x8) (funext fun a => by fin_cases a <;> rfl)]

/-- A whole load of a buffer held at `X` reads `X`. -/
theorem load2_at {n k : ℕ} (m : Memref sig .tc .vmem ⟨2, ![n, k]⟩ .f32) (h : m.IsWhole) (X : (⟨2, ![n, k]⟩ : Shape).Idx → Elt Ideal .f32)
    (inb : ∀ a, (![0, 0] : Fin 2 → ℕ) a + (⟨2, ![n, k]⟩ : Shape).size a ≤ (⟨2, ![n, k]⟩ : Shape).size a) (i : Fin n) (j : Fin k) :
    m.view.readAt (Elt Ideal) (Rect.unit (s := ⟨2, ![n, k]⟩) ![0, 0] (⟨2, ![n, k]⟩ : Shape).size inb).toLoadRect (h.unread X) (ix2 i j) = X (ix2 i j) := by
  refine (h.readAt_unread X _ _).trans (congrArg X (funext fun d => ?_))
  match d with
  | 0 => exact Fin.ext (by show 0 + 1 * i.val = i.val; omega)
  | 1 => exact Fin.ext (by show 0 + 1 * j.val = j.val; omega)

/-- A read of the one leading block of a whole array of three axes. -/
theorem load3_at {n k l : ℕ} (m : Memref sig .tc .vmem ⟨3, ![n, k, l]⟩ .f32) (h : m.IsWhole) (X : (⟨3, ![n, k, l]⟩ : Shape).Idx → Elt Ideal .f32)
    (inb : ∀ a, (![0, 0, 0] : Fin 3 → ℕ) a + (⟨3, ![n, k, l]⟩ : Shape).size a ≤ (⟨3, ![n, k, l]⟩ : Shape).size a) (i : Fin n) (j : Fin k) (z : Fin l) :
    m.view.readAt (Elt Ideal) (Rect.unit (s := ⟨3, ![n, k, l]⟩) ![0, 0, 0] (⟨3, ![n, k, l]⟩ : Shape).size inb).toLoadRect (h.unread X) (ix3 i j z) = X (ix3 i j z) := by
  refine (h.readAt_unread X _ _).trans (congrArg X (funext fun d => ?_))
  match d with
  | 0 => exact Fin.ext (by show 0 + 1 * i.val = i.val; omega)
  | 1 => exact Fin.ext (by show 0 + 1 * j.val = j.val; omega)
  | 2 => exact Fin.ext (by show 0 + 1 * z.val = z.val; omega)

/-- What a point adds, of buffers held at blocks `x0`, `x1`, `x2`. -/
theorem fusedVal_loads (a5 a6 : Memref sig .tc .vmem S2048x1024 .f32) (m1 : Memref sig .tc .vmem S2048x588 .f32) (h1 : m1.IsWhole)
    (m2 : Memref sig .tc .vmem S1x588x1024 .f32) (h2 : m2.IsWhole) (m3 : Memref sig .tc .vmem S256x256 .f32) (h3 : m3.IsWhole)
    (x0 : Vec Ideal S2048x588 .f32) (x1 : Vec Ideal S1x588x1024 .f32) (x2 : Vec Ideal S256x256 .f32)
    (t : Fin 2048 → Fin 588 → EReal) (w : Fin 588 → Fin 1024 → EReal) (a : Fin 256 → Fin 256 → EReal)
    (e0 : ∀ r i, x0 (ix2 r i) = t r i) (e1 : ∀ i k, x1 (ix3 0 i k) = w i k) (e2 : ∀ p q, x2 (ix2 p q) = a p q) (p : Fin 256) (b : Fin 8) :
    fusedVal (F := Ideal) a5 a6 (m1.view.readAt (Elt Ideal) (Rect.unit (s := S2048x588) ![0, 0] S2048x588.size inb_S2048x588_S2048x588_0_0).toLoadRect (h1.unread x0))
      (m2.view.readAt (Elt Ideal) (Rect.unit (s := S1x588x1024) ![0, 0, 0] S1x588x1024.size inb_S1x588x1024_S1x588x1024_0_0_0).toLoadRect (h2.unread x1))
      (m3.view.readAt (Elt Ideal) (Rect.unit (s := S256x256) ![0, 0] S256x256.size inb_S256x256_S256x256_0_0).toLoadRect (h3.unread x2)) (ix2 p b)
      = contrib t w a b p := by
  rw [fusedVal_at]
  refine congrFun (congrFun (congr (congr (congrArg contrib ?_) ?_) ?_) b) p
  · exact funext fun r => funext fun i => (load2_at m1 h1 x0 _ r i).trans (e0 r i)
  · exact funext fun i => funext fun k => (load3_at m2 h2 x1 _ 0 i k).trans (e1 i k)
  · exact funext fun p => funext fun q => (load2_at m3 h3 x2 _ p q).trans (e2 p q)

section
variable (V : (c : Dev nD) → (b : Ref sig .tc) → Buf (Elt Ideal) ((c : Thread nD τ).loc b)) (c : Dev nD)

/-- The first call's token array on entry. -/
def tokIn (r : Fin 2048) (i : Fin 588) : EReal := (V c (Pipeline.arrRef spec0 0) : S2048x588.Idx → EReal) (ix2 r i)
/-- The first call's projections on entry. -/
def wIn (l : Fin 2) (i : Fin 588) (k : Fin 1024) : EReal := (V c (Pipeline.arrRef spec0 1) : S2x588x1024.Idx → EReal) (ix3 l i k)
/-- The first call's pooling matrix on entry. -/
def aIn (p q : Fin 256) : EReal := (V c (Pipeline.arrRef spec0 2) : S256x256.Idx → EReal) (ix2 p q)

/-- The block of tokens is the whole array of tokens. -/
theorem iblk0_0_at (t : Fin cfg0.N) (r : Fin 2048) (i : Fin 588) : (iblk0 V c 0 t : S2048x588.Idx → EReal) (ix2 r i) = tokIn V c r i := by
  refine congrArg (V c (Pipeline.arrRef spec0 0) : S2048x588.Idx → EReal) (funext fun d => ?_)
  match d with
  | 0 => exact Fin.ext (by show 0 * 2048 + 1 * r.val = r.val; omega)
  | 1 => exact Fin.ext (by show 0 * 588 + 1 * i.val = i.val; omega)

/-- The block of the pooling table is the whole table. -/
theorem iblk0_2_at (t : Fin cfg0.N) (p q : Fin 256) : (iblk0 V c 2 t : S256x256.Idx → EReal) (ix2 p q) = aIn V c p q := by
  refine congrArg (V c (Pipeline.arrRef spec0 2) : S256x256.Idx → EReal) (funext fun d => ?_)
  match d with
  | 0 => exact Fin.ext (by show 0 * 256 + 1 * p.val = p.val; omega)
  | 1 => exact Fin.ext (by show 0 * 256 + 1 * q.val = q.val; omega)

/-- Layer `l`'s block of the projections is that layer's projection. -/
theorem iblk0_1_at (l : Fin 2) (i : Fin 588) (k : Fin 1024) : (iblk0 V c 1 (l.cast N_0.symm) : S1x588x1024.Idx → EReal) (ix3 0 i k) = wIn V c l i k := by
  refine congrArg (V c (Pipeline.arrRef spec0 1) : S2x588x1024.Idx → EReal) (funext fun d => ?_)
  match l, d with
  | 0, 0 => rfl
  | 1, 0 => rfl
  | 0, 1 => exact Fin.ext (by show 0 * 588 + 1 * i.val = i.val; omega)
  | 1, 1 => exact Fin.ext (by show 0 * 588 + 1 * i.val = i.val; omega)
  | 0, 2 => exact Fin.ext (by show 0 * 1024 + 1 * k.val = k.val; omega)
  | 1, 2 => exact Fin.ext (by show 0 * 1024 + 1 * k.val = k.val; omega)

/-- The sums after the first point. -/
theorem outs_first (p : Fin 256) (b : Fin 8) :
    outsAt0 V c 0 (by rw [show cfg0.N = 2 from N_0]; omega) (ix2 p b) = contrib (tokIn V c) (wIn V c 0) (aIn V c) b p := by
  have h := outsAt0_A V c ((0 : Fin 2).cast N_0.symm) rfl (by decide)
  refine (congrFun h (ix2 p b)).trans ?_
  unfold out0_A_3
  rw [kernelRun0_A_fst, read_whole8]
  exact fusedVal_loads _ _ _ _ _ _ _ _ _ _ _ _ _ _ (fun r i => iblk0_0_at V c _ r i) (fun i k => iblk0_1_at V c 0 i k) (fun p q => iblk0_2_at V c _ p q) p b

/-- The sums after the second point. -/
theorem outs_second (p : Fin 256) (b : Fin 8) :
    outsAt0 V c 1 (by rw [show cfg0.N = 2 from N_0]; omega) (ix2 p b)
      = contrib (tokIn V c) (wIn V c 0) (aIn V c) b p + contrib (tokIn V c) (wIn V c 1) (aIn V c) b p := by
  have h := outsAt0_B V c ((1 : Fin 2).cast N_0.symm) (by decide) rfl
  refine (congrFun h (ix2 p b)).trans ?_
  unfold out0_B_3
  rw [kernelRun0_B_fst, read_whole8]
  refine congrArg₂ (· + ·) ?_ (fusedVal_loads _ _ _ _ _ _ _ _ _ _ _ _ _ _ (fun r i => iblk0_0_at V c _ r i) (fun i k => iblk0_1_at V c 1 i k) (fun p q => iblk0_2_at V c _ p q) p b)
  refine (congrFun (shapeCast_self _ _) (ix2 p b)).trans ?_
  refine (load2_at (n := 256) (k := 8) _ _ _ _ p b).trans ?_
  exact outs_first V c p b

/-- What the result array holds at the end of the first call. -/
noncomputable def accVal : S256x8.Idx → EReal := fun i =>
  contrib (tokIn V c) (wIn V c 0) (aIn V c) (i 1) (i 0) + contrib (tokIn V c) (wIn V c 1) (aIn V c) (i 1) (i 0)

/-- The result array of the first call at its end. -/
theorem arr0_3 : (dat0 V c).arrAt 3 cfg0.N = accVal V c := by
  refine (dat0 V c).arrAt_eq_of_cover 3 (accVal V c) (fun t ht => ?_) (fun i => ?_)
  · have h1 : t.val = 1 := by
      have := (flush0_3 t).mp ht
      have hN : t.val < 2 := lt_of_lt_of_eq t.isLt (show cfg0.N = 2 from N_0)
      omega
    obtain rfl : t = (1 : Fin 2).cast N_0.symm := Fin.ext h1
    show (cfg0.win 3).cut (grid0.coords _) ((dat0 V c).after 3 _) = _
    rw [after0_3]
    funext y
    refine (congrArg (outsAt0 V c 1 _) (eq_ix2 (n0 := 256) (n1 := 8) y)).trans ((outs_second V c _ _).trans ?_)
    refine Eq.trans ?_ (congrArg (accVal V c) (funext fun d => ?_) : accVal V c y = _)
    · rfl
    · match d with
      | 0 => exact Fin.ext (by show (y 0).val = 0 * 256 + 1 * (y 0).val; omega)
      | 1 => exact Fin.ext (by show (y 1).val = 0 * 8 + 1 * (y 1).val; omega)
  · refine ⟨(1 : Fin 2).cast N_0.symm, (flush0_3 _).mpr rfl, ?_⟩
    show i ∈ ((View.whole main_v48).slice (win0_3.rect ((1 : Fin 2).cast N_0.symm))).set
    rw [View.set_slice_whole, Rect.mem_set_unit]
    intro a
    match a with
    | ⟨0, _⟩ => exact ⟨by show 0 * 256 ≤ (i 0).val; omega, by show (i 0).val < 0 * 256 + 256; have := (i 0).isLt; exact lt_of_lt_of_eq this rfl⟩
    | ⟨1, _⟩ => exact ⟨by show 0 * 8 ≤ (i 1).val; omega, by show (i 1).val < 0 * 8 + 8; have := (i 1).isLt; exact lt_of_lt_of_eq this rfl⟩

end

end Cert.KernelIdeal.Run
-- ==== Proof.Region1Val.lean ====
/-
  What the second call leaves in its two result arrays: the resized maps, and each map's largest value.
-/
module

public import proofs.«01_k».proof.Proof.Region0Val
public import proofs.«01_k».proof.Proof.IRegion1

@[expose] public section

set_option maxRecDepth 16384

namespace Cert.KernelIdeal.Run

open Cert.KernelIdeal.Gen
open Idealize.ShloMosaic Idealize.ShloMosaic.TcCoe Idealize.ShloMosaic.Tactic

section
variable {F : FTy → Type} [FloatOps F] [Named F]

/-- The map the first point stores. -/
theorem kernelRun1_A_fst (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : cond1_0 i) (hc1 : ¬cond1_1 i)
    (x0 : Vec F S1x16x16 .f32) (x1 : Vec F S224x16 .f32) :
    (kernelRun1_A c i arg1 harg1 arg2 harg2 arg3 harg3 arg4 harg4 hc0 hc1 x0 x1).1 = [⟨Rect.unit (s := S1x224x224) ![0, 0, 0] S1x224x224.size inb_S1x224x224_S1x224x224_0_0_0, k1_pay2 (arg1.view.readAt (Elt F) (Rect.unit (s := S1x16x16) ![0, 0, 0] S1x16x16.size inb_S1x16x16_S1x16x16_0_0_0).toLoadRect (harg1.unread x0)) (arg2.view.readAt (Elt F) (Rect.unit (s := S224x16) ![0, 0] S224x16.size inb_S224x16_S224x16_0_0).toLoadRect (harg2.unread x1))⟩] := by
  sl_kernel_rfl

/-- The scores the first point stores. -/
theorem kernelRun1_A_snd (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : cond1_0 i) (hc1 : ¬cond1_1 i)
    (x0 : Vec F S1x16x16 .f32) (x1 : Vec F S224x16 .f32) :
    (kernelRun1_A c i arg1 harg1 arg2 harg2 arg3 harg3 arg4 harg4 hc0 hc1 x0 x1).2.1 = [⟨Rect.unit (s := S8x1) ![0, 0] S8x1.size inb_S8x1_S8x1_0_0, k1_pay3 i (arg1.view.readAt (Elt F) (Rect.unit (s := S1x16x16) ![0, 0, 0] S1x16x16.size inb_S1x16x16_S1x16x16_0_0_0).toLoadRect (harg1.unread x0)) (arg2.view.readAt (Elt F) (Rect.unit (s := S224x16) ![0, 0] S224x16.size inb_S224x16_S224x16_0_0).toLoadRect (harg2.unread x1))⟩] := by
  sl_kernel_rfl

/-- The map a later point stores. -/
theorem kernelRun1_B_fst (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : ¬cond1_0 i) (hc1 : cond1_1 i)
    (x0 : Vec F S1x16x16 .f32) (x1 : Vec F S224x16 .f32) (xo3 : Vec F S8x1 .f32) :
    (kernelRun1_B c i arg1 harg1 arg2 harg2 arg3 harg3 arg4 harg4 hc0 hc1 x0 x1 xo3).1 = [⟨Rect.unit (s := S1x224x224) ![0, 0, 0] S1x224x224.size inb_S1x224x224_S1x224x224_0_0_0, k1_pay2 (arg1.view.readAt (Elt F) (Rect.unit (s := S1x16x16) ![0, 0, 0] S1x16x16.size inb_S1x16x16_S1x16x16_0_0_0).toLoadRect (harg1.unread x0)) (arg2.view.readAt (Elt F) (Rect.unit (s := S224x16) ![0, 0] S224x16.size inb_S224x16_S224x16_0_0).toLoadRect (harg2.unread x1))⟩] := by
  sl_kernel_rfl

/-- The scores a later point stores. -/
theorem kernelRun1_B_snd (c : Dev nD) (i : grid1.Coords) (arg1 : Memref sig .tc .vmem S1x16x16 .f32) (harg1 : arg1.IsWhole) (arg2 : Memref sig .tc .vmem S224x16 .f32) (harg2 : arg2.IsWhole) (arg3 : Memref sig .tc .vmem S1x224x224 .f32) (harg3 : arg3.IsWhole) (arg4 : Memref sig .tc .vmem S8x1 .f32) (harg4 : arg4.IsWhole) (hc0 : ¬cond1_0 i) (hc1 : cond1_1 i)
    (x0 : Vec F S1x16x16 .f32) (x1 : Vec F S224x16 .f32) (xo3 : Vec F S8x1 .f32) :
    (kernelRun1_B c i arg1 harg1 arg2 harg2 arg3 harg3 arg4 harg4 hc0 hc1 x0 x1 xo3).2.1 = [⟨Rect.unit (s := S8x1) ![0, 0] S8x1.size inb_S8x1_S8x1_0_0, k1_pay4 i (arg1.view.readAt (Elt F) (Rect.unit (s := S1x16x16) ![0, 0, 0] S1x16x16.size inb_S1x16x16_S1x16x16_0_0_0).toLoadRect (harg1.unread x0)) (arg2.view.readAt (Elt F) (Rect.unit (s := S224x16) ![0, 0] S224x16.size inb_S224x16_S224x16_0_0).toLoadRect (harg2.unread x1)) (arg4.view.readAt (Elt F) (Rect.unit (s := S8x1) ![0, 0] S8x1.size inb_S8x1_S8x1_0_0).toLoadRect (harg4.unread xo3))⟩] := by
  sl_kernel_rfl

end

/-- One resized map at a pixel: rows of `r` on both sides of `s`. -/
noncomputable def resized (s : Fin 16 → Fin 16 → EReal) (r : Fin 224 → Fin 16 → EReal) (i j : Fin 224) : EReal :=
  ∑ v, (∑ u, r i u * s u v) * r j v

/-- An entry of the resized map. -/
theorem pay1_at (x0 : Vec Ideal S1x16x16 .f32) (x1 : Vec Ideal S224x16 .f32) (i j : Fin 224) :
    k1_pay1 (F := Ideal) x0 x1 (ix2 i j) = resized (fun u v => x0 (ix3 0 u v)) (fun i u => x1 (ix2 i u)) i j := by
  unfold resized
  pointwise [k1_pay1]

/-- An entry of the block of maps that is written. -/
theorem pay2_at (x0 : Vec Ideal S1x16x16 .f32) (x1 : Vec Ideal S224x16 .f32) (z : Fin 1) (i j : Fin 224) :
    k1_pay2 (F := Ideal) x0 x1 (ix3 z i j) = resized (fun u v => x0 (ix3 0 u v)) (fun i u => x1 (ix2 i u)) i j := by
  obtain rfl : z = 0 := Subsingleton.elim _ _
  rw [← pay1_at]
  pointwise [k1_pay2]

/-- The largest pixel of one resized map. -/
noncomputable def peak (s : Fin 16 → Fin 16 → EReal) (r : Fin 224 → Fin 16 → EReal) : EReal :=
  (Finset.univ : Finset (Fin 224 × Fin 224)).fold max (Ideal.ofBits .f32 0xFF800000#32) fun x => resized s r x.1 x.2

/-- Comparing a row number with the point's number and reading the bit as a number. -/
theorem onehot (b t : Fin 8) :
    (FloatOps.sitofp .f32 (BitVec.setWidth 32 (IntOp.cmpi .eq (BitVec.ofNat 32 b.val) (BitVec.ofNat 32 t.val))) : Ideal .f32)
      = (if b = t then 1 else 0 : EReal) := by
  have h : (BitVec.setWidth 32 (IntOp.cmpi .eq (BitVec.ofNat 32 b.val) (BitVec.ofNat 32 t.val))).toInt = if b = t then 1 else 0 := by
    revert b t; decide
  show ((((BitVec.setWidth 32 (IntOp.cmpi .eq (BitVec.ofNat 32 b.val) (BitVec.ofNat 32 t.val))).toInt : ℝ)) : EReal) = _
  rw [h]
  split <;> simp

/-- The step of image `t` adds its greatest entry in that image's place and zero elsewhere. -/
theorem score_at (i : grid1.Coords) (t : Fin 8) (ht : (i 0).val = t.val) (x0 : Vec Ideal S1x16x16 .f32) (x1 : Vec Ideal S224x16 .f32) (b : Fin 8) :
    k1_pay3 (F := Ideal) i x0 x1 (ix2 b 0)
      = if b = t then peak (fun u v => x0 (ix3 0 u v)) (fun i u => x1 (ix2 i u)) else 0 := by
  have e : k1_pay3 (F := Ideal) i x0 x1 (ix2 b 0)
      = peak (fun u v => x0 (ix3 0 u v)) (fun i u => x1 (ix2 i u)) * (FloatOps.sitofp .f32 (BitVec.setWidth 32 (IntOp.cmpi .eq (BitVec.ofNat 32 b.val) (BitVec.ofNat 32 (i 0).val))) : Ideal .f32) := by
    unfold peak
    simp only [← pay1_at]
    pointwise [k1_pay3]
  rw [e, ht, onehot]
  split
  · exact mul_one _
  · exact mul_zero _

/-- One store over a whole small array leaves its value. -/
theorem read_whole_map (v : FVec Ideal S1x224x224 .f32) :
    VO1_2.read (Elt Ideal) (VO1_2.writes (Elt Ideal) VO1_2.junk [⟨Rect.unit (s := S1x224x224) ![0, 0, 0] S1x224x224.size inb_S1x224x224_S1x224x224_0_0_0, v⟩]) = v := by
  funext j
  rw [View.read_writes_junk_apply_eq_canon, View.canon_unit_zero (S := S1x224x224) (funext fun a => by fin_cases a <;> rfl)]

/-- What is read back from the scores after they are written whole. -/
theorem read_whole_scores (v : FVec Ideal S8x1 .f32) :
    VO1_3.read (Elt Ideal) (VO1_3.writes (Elt Ideal) VO1_3.junk [⟨Rect.unit (s := S8x1) ![0, 0] S8x1.size inb_S8x1_S8x1_0_0, v⟩]) = v := by
  funext j
  rw [View.read_writes_junk_apply_eq_canon, View.canon_unit_zero (S := S8x1) (funext fun a => by fin_cases a <;> rfl)]

section
variable (V : (c : Dev nD) → (b : Ref sig .tc) → Buf (Elt Ideal) ((c : Thread nD τ).loc b)) (c : Dev nD)

/-- The second call's small maps on entry. -/
def mapIn (b : Fin 8) (u v : Fin 16) : EReal := (V c (Pipeline.arrRef spec1 0) : S8x16x16.Idx → EReal) (ix3 b u v)
/-- The second call's resizing matrix on entry. -/
def resIn (i : Fin 224) (u : Fin 16) : EReal := (V c (Pipeline.arrRef spec1 1) : S224x16.Idx → EReal) (ix2 i u)

/-- The grid's coordinate is the step. -/
theorem coords1_val (t : Fin cfg1.N) : (grid1.coords t 0).val = t.val := by
  revert t; decide

/-- The first coordinate of a point's small-map block is the point's number. -/
theorem start_num (b : Fin 8) : cc1_transform_0 (grid1.coords (b.cast N_1.symm)) 0 = b.val := by
  revert b; decide

/-- Step `t` reads the patch scores of image `t`. -/
theorem iblk1_0_at (t : Fin 8) (u v : Fin 16) : (iblk1 V c 0 (t.cast N_1.symm) : S1x16x16.Idx → EReal) (ix3 0 u v) = mapIn V c t u v := by
  refine congrArg (V c (Pipeline.arrRef spec1 0) : S8x16x16.Idx → EReal) (funext fun d => ?_)
  match d with
  | 0 => exact Fin.ext (by show cc1_transform_0 (grid1.coords (t.cast N_1.symm)) 0 * 1 + 1 * 0 = t.val; have h2 := start_num t; omega)
  | 1 => exact Fin.ext (by show 0 * 16 + 1 * u.val = u.val; omega)
  | 2 => exact Fin.ext (by show 0 * 16 + 1 * v.val = v.val; omega)

/-- Every step reads the whole resize table. -/
theorem iblk1_1_at (t : Fin cfg1.N) (i : Fin 224) (u : Fin 16) : (iblk1 V c 1 t : S224x16.Idx → EReal) (ix2 i u) = resIn V c i u := by
  refine congrArg (V c (Pipeline.arrRef spec1 1) : S224x16.Idx → EReal) (funext fun d => ?_)
  match d with
  | 0 => exact Fin.ext (by show 0 * 224 + 1 * i.val = i.val; omega)
  | 1 => exact Fin.ext (by show 0 * 16 + 1 * u.val = u.val; omega)

/-- The map stored at a point, of buffers held at blocks. -/
theorem pay2_loads (m1 : Memref sig .tc .vmem S1x16x16 .f32) (h1 : m1.IsWhole) (m2 : Memref sig .tc .vmem S224x16 .f32) (h2 : m2.IsWhole)
    (x0 : Vec Ideal S1x16x16 .f32) (x1 : Vec Ideal S224x16 .f32) (s : Fin 16 → Fin 16 → EReal) (r : Fin 224 → Fin 16 → EReal)
    (e0 : ∀ u v, x0 (ix3 0 u v) = s u v) (e1 : ∀ i u, x1 (ix2 i u) = r i u) (i j : Fin 224) :
    k1_pay2 (F := Ideal) (m1.view.readAt (Elt Ideal) (Rect.unit (s := S1x16x16) ![0, 0, 0] S1x16x16.size inb_S1x16x16_S1x16x16_0_0_0).toLoadRect (h1.unread x0))
      (m2.view.readAt (Elt Ideal) (Rect.unit (s := S224x16) ![0, 0] S224x16.size inb_S224x16_S224x16_0_0).toLoadRect (h2.unread x1)) (ix3 0 i j)
      = resized s r i j := by
  rw [pay2_at]
  refine congrFun (congrFun (congr (congrArg resized ?_) ?_) i) j
  · exact funext fun u => funext fun v => (load3_at m1 h1 x0 _ 0 u v).trans (e0 u v)
  · exact funext fun i => funext fun u => (load2_at m2 h2 x1 _ i u).trans (e1 i u)

/-- The score column added at a point, of buffers held at blocks. -/
theorem pay3_loads (k : grid1.Coords) (t : Fin 8) (ht : (k 0).val = t.val) (m1 : Memref sig .tc .vmem S1x16x16 .f32) (h1 : m1.IsWhole)
    (m2 : Memref sig .tc .vmem S224x16 .f32) (h2 : m2.IsWhole)
    (x0 : Vec Ideal S1x16x16 .f32) (x1 : Vec Ideal S224x16 .f32) (s : Fin 16 → Fin 16 → EReal) (r : Fin 224 → Fin 16 → EReal)
    (e0 : ∀ u v, x0 (ix3 0 u v) = s u v) (e1 : ∀ i u, x1 (ix2 i u) = r i u) (b : Fin 8) :
    k1_pay3 (F := Ideal) k (m1.view.readAt (Elt Ideal) (Rect.unit (s := S1x16x16) ![0, 0, 0] S1x16x16.size inb_S1x16x16_S1x16x16_0_0_0).toLoadRect (h1.unread x0))
      (m2.view.readAt (Elt Ideal) (Rect.unit (s := S224x16) ![0, 0] S224x16.size inb_S224x16_S224x16_0_0).toLoadRect (h2.unread x1)) (ix2 b 0)
      = if b = t then peak s r else 0 := by
  rw [score_at k t ht]
  refine congrArg (fun z => if b = t then z else 0) ?_
  refine congr (congrArg peak ?_) ?_
  · exact funext fun u => funext fun v => (load3_at m1 h1 x0 _ 0 u v).trans (e0 u v)
  · exact funext fun i => funext fun u => (load2_at m2 h2 x1 _ i u).trans (e1 i u)

/-- The map buffer after each point. -/
theorem outs1_map (t : Fin 8) (i j : Fin 224) :
    (outsAt1 V c (t.cast N_1.symm).val (t.cast N_1.symm).isLt).1 (ix3 0 i j) = resized (mapIn V c t) (resIn V c) i j := by
  by_cases h : t.val = 0
  · have e := outsAt1_A V c (t.cast N_1.symm) (by show t.val % 8 = 0; omega) (by show ¬ 1 ≤ t.val; omega)
    refine (congrFun (congrArg Prod.fst e) (ix3 0 i j)).trans ?_
    dsimp only
    unfold out1_A_2
    rw [kernelRun1_A_fst, read_whole_map]
    exact pay2_loads _ _ _ _ _ _ _ _ (fun u v => iblk1_0_at V c t u v) (fun i u => iblk1_1_at V c _ i u) i j
  · have e := outsAt1_B V c (t.cast N_1.symm) (by show ¬ t.val % 8 = 0; omega) (by show 1 ≤ t.val; omega)
    refine (congrFun (congrArg Prod.fst e) (ix3 0 i j)).trans ?_
    dsimp only
    unfold out1_B_2
    rw [kernelRun1_B_fst, read_whole_map]
    exact pay2_loads _ _ _ _ _ _ _ _ (fun u v => iblk1_0_at V c t u v) (fun i u => iblk1_1_at V c _ i u) i j

/-- The score buffer after each point: the maps seen so far have their largest pixel, the others zero. -/
theorem outs1_scores (n : ℕ) (hn : n < 8) (b : Fin 8) :
    (outsAt1 V c n (lt_of_lt_of_eq hn N_1.symm)).2 (ix2 b 0) = if b.val ≤ n then peak (mapIn V c b) (resIn V c) else 0 := by
  induction n with
  | zero =>
    have e := outsAt1_A V c ((0 : Fin 8).cast N_1.symm) rfl (by decide)
    refine (congrFun (congrArg Prod.snd e) (ix2 b 0)).trans ?_
    dsimp only
    unfold out1_A_3
    rw [kernelRun1_A_snd, read_whole_scores]
    refine (pay3_loads _ 0 (coords1_val _) _ _ _ _ _ _ _ _ (fun u v => iblk1_0_at V c 0 u v) (fun i u => iblk1_1_at V c _ i u) b).trans ?_
    by_cases h : b = 0
    · subst h; rfl
    · rw [if_neg h, if_neg (fun h' => h (Fin.ext (by show b.val = 0; omega)))]
  | succ n ih =>
    have e := outsAt1_B V c ((⟨n + 1, hn⟩ : Fin 8).cast N_1.symm) (by show ¬ (n + 1) % 8 = 0; omega) (by show 1 ≤ n + 1; omega)
    refine (congrFun (congrArg Prod.snd e) (ix2 b 0)).trans ?_
    dsimp only
    unfold out1_B_3
    rw [kernelRun1_B_snd, read_whole_scores]
    refine (congrArg₂ (· + ·) ((congrFun (shapeCast_self _ _) (ix2 b 0)).trans ((load2_at (n := 8) (k := 1) _ _ _ _ b 0).trans (ih (by omega))))
      (pay3_loads _ ⟨n + 1, hn⟩ (coords1_val _) _ _ _ _ _ _ _ _ (fun u v => iblk1_0_at V c ⟨n + 1, hn⟩ u v) (fun i u => iblk1_1_at V c _ i u) b)).trans ?_
    by_cases h : b = ⟨n + 1, hn⟩
    · subst h
      rw [if_neg (by show ¬ n + 1 ≤ n; omega), if_pos rfl, if_pos (le_refl _), zero_add]
    · have h' : b.val ≠ n + 1 := fun q => h (Fin.ext q)
      rw [if_neg h, add_zero]
      by_cases q : b.val ≤ n
      · rw [if_pos q, if_pos (by omega)]
      · rw [if_neg q, if_neg (by omega)]

/-- The maps at the end of the second call. -/
noncomputable def mapsVal : S8x224x224.Idx → EReal := fun i => resized (mapIn V c (i 0)) (resIn V c) (i 1) (i 2)

/-- The scores at the end of the second call. -/
noncomputable def peaksVal : S8x1.Idx → EReal := fun i => peak (mapIn V c (i 0)) (resIn V c)

/-- Step `t` leaves the map of image `t`. -/
theorem outs1_map_idx (t : Fin 8) (y : S1x224x224.Idx) :
    (outsAt1 V c (t.cast N_1.symm).val (t.cast N_1.symm).isLt).1 y = mapsVal V c (ix3 t (y 1) (y 2)) :=
  (congrArg (outsAt1 V c _ _).1 ((eq_ix3 (n0 := 1) (n1 := 224) (n2 := 224) y).trans
    (congrArg (fun z : Fin 1 => ix3 (n0 := 1) (n1 := 224) (n2 := 224) z (y 1) (y 2)) (Subsingleton.elim (α := Fin 1) (y 0) (0 : Fin 1))))).trans (outs1_map V c t _ _)

/-- The last step leaves every image's greatest entry. -/
theorem outs1_scores_idx (y : S8x1.Idx) :
    (outsAt1 V c 7 (lt_of_lt_of_eq (by omega : 7 < 8) N_1.symm)).2 y = peaksVal V c y := by
  refine (congrArg (outsAt1 V c _ _).2 ((eq_ix2 (n0 := 8) (n1 := 1) y).trans
    (congrArg (fun z : Fin 1 => ix2 (n0 := 8) (n1 := 1) (y 0) z) (Subsingleton.elim (α := Fin 1) (y 1) (0 : Fin 1))))).trans ((outs1_scores V c 7 (by omega) (y 0)).trans ?_)
  rw [if_pos (Nat.le_of_lt_succ (y 0).isLt)]
  rfl

/-- The first coordinate of a point's map block is the point's number. -/
theorem block_num (b : Fin 8) : cc1_transform_2 (grid1.coords (b.cast N_1.symm)) 0 = b.val := by
  revert b; decide

/-- Every image lies in the block of its own step. -/
theorem block_cover (b : Fin 8) : cc1_transform_2 (grid1.coords (b.cast N_1.symm)) 0 * 1 ≤ b.val
    ∧ b.val < cc1_transform_2 (grid1.coords (b.cast N_1.symm)) 0 * 1 + 1 := by
  rw [block_num]; omega

/-- The array of maps at the second call's end. -/
theorem arr1_2 : (dat1 V c).arrAt 2 cfg1.N = mapsVal V c := by
  refine (dat1 V c).arrAt_eq_of_cover 2 (mapsVal V c) (fun t ht => ?_) (fun i => ?_)
  · obtain ⟨t, rfl⟩ : ∃ t' : Fin 8, t = t'.cast N_1.symm := ⟨t.cast N_1, rfl⟩
    show (cfg1.win 2).cut (grid1.coords _) ((dat1 V c).after 2 _) = _
    rw [after1_2]
    funext y
    refine (outs1_map_idx V c t y).trans (congrArg (mapsVal V c) (funext fun d => ?_))
    match d with
    | 0 => exact Fin.ext (by show t.val = (cc1_transform_2 (grid1.coords (t.cast N_1.symm)) 0) * 1 + 1 * (y 0).val; have h0 : (y 0).val < 1 := (y 0).isLt; have h2 := block_num t; omega)
    | 1 => exact Fin.ext (by show (y 1).val = 0 * 224 + 1 * (y 1).val; omega)
    | 2 => exact Fin.ext (by show (y 2).val = 0 * 224 + 1 * (y 2).val; omega)
  · refine ⟨(i 0 : Fin 8).cast N_1.symm, flush1_2 _, ?_⟩
    show i ∈ ((View.whole main_v51_0).slice (win1_2.rect ((i 0 : Fin 8).cast N_1.symm))).set
    rw [View.set_slice_whole, Rect.mem_set_unit]
    intro a
    match a with
    | ⟨0, _⟩ => exact block_cover (i 0)
    | ⟨1, _⟩ => exact ⟨by show 0 * 224 ≤ (i 1).val; omega, by show (i 1).val < 0 * 224 + 224; have := (i 1).isLt; exact lt_of_lt_of_eq this rfl⟩
    | ⟨2, _⟩ => exact ⟨by show 0 * 224 ≤ (i 2).val; omega, by show (i 2).val < 0 * 224 + 224; have := (i 2).isLt; exact lt_of_lt_of_eq this rfl⟩

/-- The array of scores at the second call's end. -/
theorem arr1_3 : (dat1 V c).arrAt 3 cfg1.N = peaksVal V c := by
  refine (dat1 V c).arrAt_eq_of_cover 3 (peaksVal V c) (fun t ht => ?_) (fun i => ?_)
  · have h1 : t.val = 7 := by
      have := (flush1_3 t).mp ht
      have hN : t.val < 8 := lt_of_lt_of_eq t.isLt (show cfg1.N = 8 from N_1)
      omega
    obtain rfl : t = (7 : Fin 8).cast N_1.symm := Fin.ext h1
    show (cfg1.win 3).cut (grid1.coords _) ((dat1 V c).after 3 _) = _
    rw [after1_3]
    funext y
    refine (outs1_scores_idx V c y).trans (congrArg (peaksVal V c) (funext fun d => ?_))
    match d with
    | 0 => exact Fin.ext (by show (y 0).val = 0 * 8 + 1 * (y 0).val; omega)
    | 1 => exact Fin.ext (by show (y 1).val = 0 * 1 + 1 * (y 1).val; omega)
  · refine ⟨(7 : Fin 8).cast N_1.symm, (flush1_3 _).mpr rfl, ?_⟩
    show i ∈ ((View.whole main_v51_1).slice (win1_3.rect ((7 : Fin 8).cast N_1.symm))).set
    rw [View.set_slice_whole, Rect.mem_set_unit]
    intro a
    match a with
    | ⟨0, _⟩ => exact ⟨by show 0 * 8 ≤ (i 0).val; omega, by show (i 0).val < 0 * 8 + 8; have := (i 0).isLt; exact lt_of_lt_of_eq this rfl⟩
    | ⟨1, _⟩ => exact ⟨by show 0 * 1 ≤ (i 1).val; omega, by show (i 1).val < 0 * 1 + 1; have := (i 1).isLt; exact lt_of_lt_of_eq this rfl⟩

end

end Cert.KernelIdeal.Run
-- ==== Proof.HostVal.lean ====
/-
  What the host operations around the two calls compute: the tokens of the images, the pooling matrix, the resizing
  matrix, and the reshapes between the calls.
-/
module

public import proofs.«01_k».proof.Proof.Region1Val
public import proofs.«01_k».proof.Proof.IRun
public import proofs.«01_k».proof.Proof.Tables

@[expose] public section

set_option maxRecDepth 16384

namespace Cert.KernelIdeal.Run

open Cert.KernelIdeal.Gen
open Idealize.ShloMosaic Idealize.ShloMosaic.TcCoe Idealize.ShloMosaic.Tactic Idealize.ShloMosaic.StableHlo

section
variable {F : FTy → Type} [FloatOps F] [Named F]

/-- The rearrangement of the images into tokens. -/
noncomputable def tokens (x : Vec F S8x3x224x224 .f32) : Vec F S2048x588 .f32 :=
  shapeCast S2048x588 (transpose S8x256x588 [0, 2, 1] (shapeCast S8x588x256 (shapeCast S8x588x16x16
    (transpose S8x3x14x14x16x16 [0, 1, 3, 5, 2, 4] (shapeCast S8x3x16x14x16x14 x shapeCasts_S8x3x224x224_S8x3x16x14x16x14)
      transposes_S8x3x16x14x16x14_S8x3x14x14x16x16_0_1_3_5_2_4)
    shapeCasts_S8x3x14x14x16x16_S8x588x16x16) shapeCasts_S8x588x16x16_S8x588x256) transposes_S8x588x256_S8x256x588_0_2_1) shapeCasts_S8x256x588_S2048x588

/-- Which places of a 16×16 grid are neighbours, edges included. -/
noncomputable def nearMask : IVec S16x16x16x16 1 :=
  andi (cmpi .sle (absi (subi (iotaInDim S16x16x16x16 32 0) (iotaInDim S16x16x16x16 32 2))) (broadcastInDim S16x16x16x16 ![] bcast_S_S16x16x16x16 (constantI S_ 32 1#32)))
    (cmpi .sle (absi (subi (iotaInDim S16x16x16x16 32 1) (iotaInDim S16x16x16x16 32 3))) (broadcastInDim S16x16x16x16 ![] bcast_S_S16x16x16x16 (constantI S_ 32 1#32)))

/-- One over the number of neighbours of each place. -/
noncomputable def invCount : Vec F S16x16x1x1 .f32 :=
  Host.divf (broadcastInDim S16x16x1x1 ![] bcast_S_S16x16x1x1 (constant S_ .f32 0x3F800000#32))
    (broadcastInDim S16x16x1x1 ![0, 1] bcast_S16x16_S16x16x1x1_0_1 (Host.reduceAdd (uitofp .f32 nearMask) (constant S_ .f32 0x00000000#32) reducesTo_S16x16x16x16_S16x16_d2_3 h_S_))

/-- The pooling matrix. -/
noncomputable def poolMat : Vec F S256x256 .f32 :=
  shapeCast S256x256 (select nearMask (broadcastInDim S16x16x16x16 ![0, 1, 2, 3] bcast_S16x16x1x1_S16x16x16x16_0_1_2_3 (invCount (F := F)))
    (broadcastInDim S16x16x16x16 ![] bcast_S_S16x16x16x16 (constant S_ .f32 0x00000000#32))) shapeCasts_S16x16x16x16_S256x256

/-- The unscaled weights of the linear resize. -/
noncomputable def hat : Vec F S224x16 .f32 :=
  maximumf (broadcastInDim S224x16 ![] bcast_S_S224x16 (constant S_ .f32 0x00000000#32)) (subf (broadcastInDim S224x16 ![] bcast_S_S224x16 (constant S_ .f32 0x3F800000#32))
    (Host.absf (subf (subf (Host.divf (mulf (addf (sitofp .f32 (iotaInDim S224x16 32 0)) (broadcastInDim S224x16 ![] bcast_S_S224x16 (constant S_ .f32 0x3F000000#32)))
      (broadcastInDim S224x16 ![] bcast_S_S224x16 (constant S_ .f32 0x41800000#32))) (broadcastInDim S224x16 ![] bcast_S_S224x16 (constant S_ .f32 0x43600000#32)))
      (broadcastInDim S224x16 ![] bcast_S_S224x16 (constant S_ .f32 0x3F000000#32))) (sitofp .f32 (iotaInDim S224x16 32 1)))))

/-- The resizing matrix: each row of weights over its sum. -/
noncomputable def resMat : Vec F S224x16 .f32 :=
  Host.divf (hat (F := F)) (broadcastInDim S224x16 ![0, 1] bcast_S224x1_S224x16_0_1 (broadcastInDim S224x1 ![0] bcast_S224_S224x1_0
    (Host.reduceAdd (hat (F := F)) (constant S_ .f32 0x00000000#32) reducesTo_S224x16_S224_d1 h_S_)))

variable (m : (ℓ : Loc nD τ sig) → Buf (Elt F) ℓ) (ρ : Dev nD → PrngReg) (c : Dev nD)

/-- Before the first call the tokens are computed from the images. -/
theorem W3_tokens : (W3 m ρ c (Proc.devRef .tc main_v5) : Vec F S2048x588 .f32) = tokens (m ((c.tc : Thread nD τ).loc main_arg0)) := by
  refine (W3_of m ρ c main_v5 (by decide)).trans ((W2_of m ρ c main_v5 (by decide)).trans ?_)
  show after hostOps0 (W0 m ρ c) (Proc.devRef .tc main_v5) = _
  simp only [hostOps0]
  after_results_simp
  rfl

/-- Before the first call the pooling table is computed. -/
theorem W3_poolMat : (W3 m ρ c (Proc.devRef .tc main_v25) : Vec F S256x256 .f32) = poolMat := by
  show after hostOps0_2 (after hostOps0_1 (after hostOps0 (W0 m ρ c))) (Proc.devRef .tc main_v25) = _
  simp only [hostOps0_2, hostOps0_1, hostOps0]
  after_results_simp
  rfl

/-- Before the first call the resize table is computed. -/
theorem W3_resMat : (W3 m ρ c (Proc.devRef .tc main_v47) : Vec F S224x16 .f32) = resMat := by
  show after hostOps0_2 (W2 m ρ c) (Proc.devRef .tc main_v47) = _
  simp only [hostOps0_2]
  after_results_simp
  rfl
end

/-- An entry of the tokens, read from the images. -/
theorem tokens_at (x : Vec Ideal S8x3x224x224 .f32) (r : Fin 2048) (i : Fin 588) :
    tokens (F := Ideal) x (ix2 r i) = x (ix4 ⟨r.val / 256, by omega⟩ ⟨i.val / 196, by omega⟩ ⟨r.val % 256 / 16 * 14 + i.val / 14 % 14, by omega⟩ ⟨r.val % 256 % 16 * 14 + i.val % 14, by omega⟩) := by
  pointwise [tokens]

open Cert.Tables

/-- Two coordinates differ by at most one just when they are neighbours. -/
theorem beside_bit (i y : Fin 16) :
    IntOp.cmpi .sle (IntOp.absi (IntOp.subi (BitVec.ofNat 32 i.val) (BitVec.ofNat 32 y.val))) 1#32 = if near1 i y then 1#1 else 0#1 := by
  revert i y; decide +kernel

/-- The mask of neighbouring places. -/
theorem nearMask_at (i j y x : Fin 16) : nearMask (ix4 i j y x) = if near1 i y ∧ near1 j x then 1#1 else 0#1 := by
  have e : nearMask (ix4 i j y x) = IntOp.andi (IntOp.cmpi .sle (IntOp.absi (IntOp.subi (BitVec.ofNat 32 i.val) (BitVec.ofNat 32 y.val))) 1#32)
      (IntOp.cmpi .sle (IntOp.absi (IntOp.subi (BitVec.ofNat 32 j.val) (BitVec.ofNat 32 x.val))) 1#32) := by
    pointwise [nearMask]
  rw [e, beside_bit, beside_bit]
  by_cases h : near1 i y
  · by_cases h' : near1 j x
    · rw [if_pos h, if_pos h', if_pos ⟨h, h'⟩]; rfl
    · rw [if_pos h, if_neg h', if_neg fun q => h' q.2]; rfl
  · by_cases h' : near1 j x
    · rw [if_neg h, if_pos h', if_neg fun q => h q.1]; rfl
    · rw [if_neg h, if_neg h', if_neg fun q => h q.1]; rfl

/-- The mask as a number. -/
theorem mask_num (i j y x : Fin 16) :
    (FloatOps.uitofp .f32 (nearMask (ix4 i j y x)) : Ideal .f32) = (if near1 i y ∧ near1 j x then 1 else 0 : EReal) := by
  rw [nearMask_at]
  show ((((if near1 i y ∧ near1 j x then 1#1 else 0#1 : BitVec 1).toNat : ℝ)) : EReal) = _
  split <;> simp

/-- One divided by the number of neighbours. -/
theorem invCount_at (i j : Fin 16) : invCount (F := Ideal) (ix4 i j 0 0) = Ideal.div 1 ((count i j : ℝ) : EReal) := by
  rw [← count_cast]
  pointwise [invCount, mask_num]

/-- An entry of the pooling table. -/
theorem poolMat_at (p q : Fin 256) : poolMat (F := Ideal) (ix2 p q)
    = if near1 ⟨p.val / 16, by omega⟩ ⟨q.val / 16, by omega⟩ ∧ near1 ⟨p.val % 16, by omega⟩ ⟨q.val % 16, by omega⟩
      then Ideal.div 1 ((count ⟨p.val / 16, by omega⟩ ⟨p.val % 16, by omega⟩ : ℝ) : EReal) else 0 := by
  have e : poolMat (F := Ideal) (ix2 p q)
      = Scalar.select (nearMask (ix4 ⟨p.val / 16, by omega⟩ ⟨p.val % 16, by omega⟩ ⟨q.val / 16, by omega⟩ ⟨q.val % 16, by omega⟩))
        (invCount (F := Ideal) (ix4 ⟨p.val / 16, by omega⟩ ⟨p.val % 16, by omega⟩ 0 0)) (0 : EReal) := by
    pointwise [poolMat]
  rw [e, nearMask_at, invCount_at]
  split <;> rfl

/-- An entry of the hat weights. -/
theorem hat_at (y : Fin 224) (u : Fin 16) : hat (F := Ideal) (ix2 y u) = ((hatR y u : ℝ) : EReal) := by
  have e : hat (F := Ideal) (ix2 y u) = max 0 (1 - FloatOps.absf (F := Ideal) (φ := .f32) (Ideal.div (((FloatOps.sitofp (F := Ideal) .f32 (BitVec.ofNat 32 y.val) : EReal) + Ideal.ofBits .f32 0x3F000000#32)
      * Ideal.ofBits .f32 0x41800000#32) (Ideal.ofBits .f32 0x43600000#32) - Ideal.ofBits .f32 0x3F000000#32 - FloatOps.sitofp (F := Ideal) .f32 (BitVec.ofNat 32 u.val))) := by
    pointwise [hat]
  rw [e, int_word _ (by omega), int_word _ (by omega), half_bits, sixteen_bits, wide_bits, Ideal.div_coe (by norm_num),
    ← EReal.coe_add, ← EReal.coe_mul, ← EReal.coe_mul, ← EReal.coe_sub, ← EReal.coe_sub, absf_coe, ← EReal.coe_one, ← EReal.coe_sub,
    ← EReal.coe_zero, coe_max]
  have a : ((y.val : ℝ) + 1 / 2) * 16 * (1 / 224) - 1 / 2 - (u.val : ℝ) = (2 * (y.val : ℝ) - 13) / 28 - u.val := by ring
  rw [a]; rfl

/-- An entry of the resize table. -/
theorem resMat_at (y : Fin 224) (u : Fin 16) :
    resMat (F := Ideal) (ix2 y u) = Ideal.div ((hatR y u : ℝ) : EReal) ((∑ v : Fin 16, hatR y v : ℝ) : EReal) := by
  rw [← coe_finsum]
  pointwise [resMat, hat_at]

section
variable (m : (ℓ : Loc nD τ sig) → Buf (Elt Ideal) ℓ) (ρ : Dev nD → PrngReg) (c : Dev nD)

/-- The images. -/
def imgs : Vec Ideal S8x3x224x224 .f32 := m ((c.tc : Thread nD τ).loc main_arg0)
/-- The projections. -/
def projs : Vec Ideal S2x588x1024 .f32 := m ((c.tc : Thread nD τ).loc main_arg1)

/-- A token's entry, as the images have it. -/
def tok (x : Vec Ideal S8x3x224x224 .f32) (r : Fin 2048) (i : Fin 588) : EReal :=
  x (ix4 ⟨r.val / 256, by omega⟩ ⟨i.val / 196, by omega⟩ ⟨r.val % 256 / 16 * 14 + i.val / 14 % 14, by omega⟩ ⟨r.val % 256 % 16 * 14 + i.val % 14, by omega⟩)

/-- The pooling matrix's entries. -/
noncomputable def poolTab (p q : Fin 256) : EReal :=
  if near1 ⟨p.val / 16, by omega⟩ ⟨q.val / 16, by omega⟩ ∧ near1 ⟨p.val % 16, by omega⟩ ⟨q.val % 16, by omega⟩
      then Ideal.div 1 ((count ⟨p.val / 16, by omega⟩ ⟨p.val % 16, by omega⟩ : ℝ) : EReal) else 0

/-- The resizing matrix's entries. -/
noncomputable def resTab (y : Fin 224) (u : Fin 16) : EReal := Ideal.div ((hatR y u : ℝ) : EReal) ((∑ v : Fin 16, hatR y v : ℝ) : EReal)

/-- The score of image `b`'s token `p` before the resize. -/
noncomputable def patch (x : Vec Ideal S8x3x224x224 .f32) (w : Vec Ideal S2x588x1024 .f32) (b : Fin 8) (p : Fin 256) : EReal :=
  contrib (tok x) (fun i k => w (ix3 0 i k)) poolTab b p + contrib (tok x) (fun i k => w (ix3 1 i k)) poolTab b p

/-- The first call's tokens. -/
theorem tokIn_eq : tokIn (V3 m ρ) c = tok (imgs m c) :=
  funext fun r => funext fun i => (congrFun (W3_tokens m ρ c) (ix2 r i)).trans (tokens_at _ r i)

/-- The first call's projections. -/
theorem wIn_eq (l : Fin 2) : wIn (V3 m ρ) c l = fun i k => projs m c (ix3 l i k) :=
  funext fun i => funext fun k => congrFun (W3_args m ρ c main_arg1 (by decide)) (ix3 l i k)

/-- The first call's pooling table. -/
theorem aIn_eq : aIn (V3 m ρ) c = poolTab :=
  funext fun p => funext fun q => (congrFun (W3_poolMat m ρ c) (ix2 p q)).trans (poolMat_at p q)

/-- The first call's result is the patch scores. -/
theorem W4_acc (p : Fin 256) (b : Fin 8) :
    (W4 m ρ c (Proc.devRef .tc main_v48) : S256x8.Idx → EReal) (ix2 p b) = patch (imgs m c) (projs m c) b p := by
  refine (congrFun ((W4_arr m ρ c 3).trans (arr0_3 (V3 m ρ) c)) (ix2 p b)).trans ?_
  show contrib (tokIn (V3 m ρ) c) (wIn (V3 m ρ) c 0) (aIn (V3 m ρ) c) b p + contrib (tokIn (V3 m ρ) c) (wIn (V3 m ρ) c 1) (aIn (V3 m ρ) c) b p = _
  rw [tokIn_eq, wIn_eq, wIn_eq, aIn_eq]
  rfl

/-- The second call's patch scores, as a grid. -/
theorem mapIn_eq (b : Fin 8) : mapIn (V5 m ρ) c b = fun u v => patch (imgs m c) (projs m c) b ⟨u.val * 16 + v.val, by omega⟩ := by
  funext u v
  have e : (W5 m ρ c (Proc.devRef .tc main_v50) : S8x16x16.Idx → EReal)
      = shapeCast S8x16x16 (transpose S8x256 [1, 0] (W4 m ρ c (Proc.devRef .tc main_v48) : S256x8.Idx → EReal) transposes_S256x8_S8x256_1_0) shapeCasts_S8x256_S8x16x16 := by
    show after hostOps1 (W4 m ρ c) (Proc.devRef .tc main_v50) = _
    simp only [hostOps1]
    after_results_simp
    rfl
  refine (congrFun e (ix3 b u v)).trans (Eq.trans ?_ (W4_acc m ρ c _ b))
  generalize (W4 m ρ c (Proc.devRef .tc main_v48) : S256x8.Idx → EReal) = f
  pointwise []

/-- The second call's resize table. -/
theorem resIn_eq : resIn (V5 m ρ) c = resTab := by
  funext y u
  refine (congrFun ((W5_of m ρ c main_v47 (by decide)).trans ((W4_of m ρ c main_v47 (by decide)).trans (W3_resMat m ρ c))) (ix2 y u)).trans (resMat_at y u)

/-- The maps the program returns. -/
theorem maps_out : (W7 m ρ c (Proc.devRef .tc main_v51_0) : S8x224x224.Idx → EReal)
    = fun i => resized (fun u v => patch (imgs m c) (projs m c) (i 0) ⟨u.val * 16 + v.val, by omega⟩) resTab (i 1) (i 2) := by
  refine (W7_of m ρ c main_v51_0 (by decide)).trans (((W6_arr m ρ c 2).trans (arr1_2 (V5 m ρ) c)).trans (funext fun i => ?_))
  exact congrArg₂ (fun s r => resized s r (i 1) (i 2)) (mapIn_eq m ρ c (i 0)) (resIn_eq m ρ c)

/-- The scores the program returns. -/
theorem scores_out : (W7 m ρ c (Proc.devRef .tc main_v52) : S8.Idx → EReal)
    = fun i => peak (fun u v => patch (imgs m c) (projs m c) (i 0) ⟨u.val * 16 + v.val, by omega⟩) resTab := by
  have e : (W7 m ρ c (Proc.devRef .tc main_v52) : S8.Idx → EReal)
      = shapeCast S8 (W6 m ρ c (Proc.devRef .tc main_v51_1) : S8x1.Idx → EReal) shapeCasts_S8x1_S8 := by
    show after hostOps2 (W6 m ρ c) (Proc.devRef .tc main_v52) = _
    simp only [hostOps2]
    after_results_simp
    rfl
  have e2 : (W6 m ρ c (Proc.devRef .tc main_v51_1) : S8x1.Idx → EReal) = peaksVal (V5 m ρ) c := (W6_arr m ρ c 3).trans (arr1_3 (V5 m ρ) c)
  rw [e, e2]
  funext i
  have e3 : shapeCast S8 (peaksVal (V5 m ρ) c) shapeCasts_S8x1_S8 (ix1 (i 0)) = peaksVal (V5 m ρ) c (ix2 (i 0) 0) := by
    generalize peaksVal (V5 m ρ) c = f
    pointwise []
  refine (congrArg _ (eq_ix1 (n0 := 8) i)).trans (e3.trans ?_)
  exact congrArg₂ peak (mapIn_eq m ρ c (i 0)) (resIn_eq m ρ c)

end

end Cert.KernelIdeal.Run
-- ==== Proof.RefVal.lean ====
module

public import proofs.«01_k».proof.Proof.RefPieces
public import proofs.«01_k».proof.Proof.Scores
public import proofs.«01_k».proof.Proof.HostVal

@[expose] public section

/-! # What the reference computes -/

namespace Cert.ReferenceIdeal.Value
open Cert.ReferenceIdeal Cert.ReferenceIdeal.Gen Idealize.ShloMosaic Idealize.ShloMosaic.TcCoe Idealize.ShloMosaic.StableHlo
open Cert.Tables
open Cert.KernelIdeal.Run (resized peak resTab rowOf near nears share dist two feat pool contrib tokOf imgOf tok poolTab patch least_eq two_masked sorted_two means_eq ofBits_two ofBits_inf)

/-- Two layers of features, token by token. -/
def Reads (X : FVec Ideal S2x8x256x1024 .f32) (G : Fin 2 → Fin 2048 → Fin 1024 → EReal) : Prop :=
  ∀ (l : Fin 2) (b : Fin 8) (p : Fin 256) (k : Fin 1024), (X (ix4 l b p k) : EReal) = G l (rowOf b p) k

/-- The sums of the squares. -/
noncomputable def squares (X : FVec Ideal S2x8x256x1024 .f32) : FVec Ideal S2x8x256 .f32 :=
  Host.reduceAdd (mulf X X) (constant S_ .f32 0x00000000#32) reducesTo_S2x8x256x1024_S2x8x256_d3 h_S_

/-- An entry of the sums of squares. -/
theorem squares_at (X : FVec Ideal S2x8x256x1024 .f32) (l : Fin 2) (b : Fin 8) (p : Fin 256) :
    (squares X (ix3 l b p) : EReal) = ∑ k : Fin 1024, X (ix4 l b p k) * X (ix4 l b p k) := by
  pointwise [squares]

/-- The masked least distances, read through the features. -/
theorem masked_at {X : FVec Ideal S2x8x256x1024 .f32} {G : Fin 2 → Fin 2048 → Fin 1024 → EReal} (h : Reads X G) (l : Fin 2) (b c : Fin 8) (p : Fin 256) :
    (maskVec (leastVec X (squares X)) (ix4 l b c p) : EReal) = if b = c then ⊤ else dist (near (G l) b c p) := by
  rw [mask_at, least_at, ofBits_inf, ofBits_two]
  refine congrArg (fun t : EReal => if b = c then ⊤ else t) ?_
  refine Eq.trans ?_ (least_eq (G l) b c p)
  refine Finset.fold_congr fun q _ => ?_
  rw [squares_at, squares_at]
  simp only [h l b p, h l c q]

/-- The mean over the two nearest images and over the layers, through the features. -/
theorem mean_share {X : FVec Ideal S2x8x256x1024 .f32} {G : Fin 2 → Fin 2048 → Fin 1024 → EReal} (h : Reads X G) (b : Fin 8) (p : Fin 256) :
    (meanVec (sortVec (maskVec (leastVec X (squares X)))) (ix2 b p) : EReal)
      = Ideal.div (∑ l : Fin 2, Ideal.div (dist (two (nears (G l) b p)).1 + dist (two (nears (G l) b p)).2) 2) 2 := by
  rw [mean_at, ofBits_two]
  refine congrArg (fun t : EReal => Ideal.div t 2) (Finset.sum_congr rfl fun l _ => congrArg (fun t : EReal => Ideal.div t 2) ?_)
  have hM : ∀ c, (maskVec (leastVec X (squares X)) (ix4 l b c p) : EReal) = if b = c then ⊤ else dist (near (G l) b c p) := fun c => masked_at h l b c p
  generalize maskVec (leastVec X (squares X)) = M at hM ⊢
  have e := sorted_two (fun c => (M (ix4 l b c p) : EReal)) (rowBefore M l b p) (rowBefore_eq M l b p)
  have e2 : ((List.finRange 8).map fun c => (M (ix4 l b c p) : EReal)) = (List.finRange 8).map fun c => if b = c then ⊤ else dist (near (G l) b c p) :=
    List.map_congr_left fun c _ => hM c
  rw [e2, two_masked] at e
  rw [Fin.sum_univ_two]
  refine congrArg₂ (fun u v : EReal => u + v) ?_ ?_
  · exact (sort_at M l b 0 p).trans (congrArg Prod.fst e)
  · exact (sort_at M l b 1 p).trans (congrArg Prod.snd e)

/-- The tokens' scores. -/
theorem patch_share {X Y : FVec Ideal S2x8x256x1024 .f32} {G H : Fin 2 → Fin 2048 → Fin 1024 → EReal} (hX : Reads X G) (hY : Reads Y H) (b : Fin 8) (p : Fin 256) :
    (patchVec (meanVec (sortVec (maskVec (leastVec X (squares X))))) (meanVec (sortVec (maskVec (leastVec Y (squares Y))))) (ix2 b p) : EReal)
      = (share (G 0) b p + share (H 0) b p) + (share (G 1) b p + share (H 1) b p) := by
  rw [patch_at, ofBits_two, mean_share hX, mean_share hY]
  exact means_eq (fun l => dist (two (nears (G l) b p)).1 + dist (two (nears (G l) b p)).2)
    (fun l => dist (two (nears (H l) b p)).1 + dist (two (nears (H l) b p)).2)

/-! ## The features -/

/-- A token's row gives back the image and the token. -/
theorem tokens_split (b : Fin 8) (p : Fin 256) : (rowOf b p).val / 256 = b.val ∧ (rowOf b p).val % 256 = p.val := by
  have : (rowOf b p).val = 256 * b.val + p.val := rfl
  omega

variable (V0 : Valuation τ sig (Elt Ideal))

/-- The images and the projections, as the reference has them. -/
def refImgs : FVec Ideal S8x3x224x224 .f32 := V0 (Proc.devRef .tc main_arg0)
/-- The projections. -/
def refProjs : FVec Ideal S2x588x1024 .f32 := V0 (Proc.devRef .tc main_arg1)

/-- The features and the resize's scale, place and hats, as vectors of numbers. -/
noncomputable def feats : FVec Ideal S2x8x256x1024 .f32 := res_main_v4 V0
/-- The step between places, one over the zoom. -/
noncomputable def scale : FVec Ideal S_ .f32 := res_main_v97 V0
/-- The places sampled. -/
noncomputable def spots : FVec Ideal S224 .f32 := res_main_v108 V0
/-- The hat weights. -/
noncomputable def hats : FVec Ideal S16x224 .f32 := res_main_v122 V0
/-- The totals of the hat weights. -/
noncomputable def totals : FVec Ideal S1x224 .f32 := res_main_v124 V0

/-- The features: a token's row times the projection's column. -/
theorem v4_at (l : Fin 2) (b : Fin 8) (p : Fin 256) (k : Fin 1024) :
    (feats V0 (ix4 l b p k) : EReal) = feat (tok (refImgs V0)) (fun i k => refProjs V0 (ix3 l i k)) (rowOf b p) k := by
  have e : (feats V0 (ix4 l b p k) : EReal) = ∑ x : Fin 588, (refProjs V0 (ix3 l x k) : EReal)
      * refImgs V0 (ix4 b ⟨x.val / 196, by omega⟩ ⟨p.val / 16 * 14 + x.val / 14 % 14, by omega⟩ ⟨p.val % 16 * 14 + x.val % 14, by omega⟩) := by
    pointwise [feats, res_main_v4]
    rfl
  obtain ⟨h1, h2⟩ := tokens_split b p
  rw [e, feat]
  refine Finset.sum_congr rfl fun x _ => ?_
  rw [mul_comm, tok]
  simp only [h1, h2]

/-- The tokens on their grid, every layer's images in turn. -/
def grid (x : FVec Ideal S2x8x256x1024 .f32) : FVec Ideal S16x16x16x1024 .f32 := shapeCast S16x16x16x1024 x shapeCasts_S2x8x256x1024_S16x16x16x1024

/-- The features laid out on the grid. -/
theorem grid_at (x : FVec Ideal S2x8x256x1024 .f32) (l : Fin 2) (b : Fin 8) (y z : Fin 16) (k : Fin 1024) :
    (grid x (ix4 ⟨l.val * 8 + b.val, by omega⟩ y z k) : EReal) = x (ix4 l b ⟨y.val * 16 + z.val, by omega⟩ k) := by
  pointwise [grid]

/-- A grid of ones. -/
noncomputable def ones : FVec Ideal S1x16x16x1 .f32 := broadcastInDim S1x16x16x1 ![] bcast_S_S1x16x16x1 (constant S_ .f32 0x3F800000#32)

/-- The grid of ones. -/
theorem ones_at (y z : Fin 16) : (ones (ix4 0 y z 0) : EReal) = 1 := by
  pointwise [ones]

/-- Averages over windows of one place. -/
noncomputable def sumOne (g : FVec Ideal S16x16x16x1024 .f32) : FVec Ideal S16x16x16x1024 .f32 :=
  Host.reduceWindowAdd ![1, 1, 1, 1] ![1, 1, 1, 1] ![0, 0, 0, 0] ![0, 0, 0, 0] g (broadcastInDim S_ ![] bcast_S_S_ (constant S_ .f32 0x00000000#32)) reduceWindows_S16x16x16x1024_S16x16x16x1024_w1s1p0_0_w1s1p0_0_w1s1p0_0_w1s1p0_0 h_S_

/-- The window sums of one place. -/
noncomputable def sizeOne (g : FVec Ideal S1x16x16x1 .f32) : FVec Ideal S1x16x16x1 .f32 :=
  Host.reduceWindowAdd ![1, 1, 1, 1] ![1, 1, 1, 1] ![0, 0, 0, 0] ![0, 0, 0, 0] g (broadcastInDim S_ ![] bcast_S_S_ (constant S_ .f32 0x00000000#32)) reduceWindows_S1x16x16x1_S1x16x16x1_w1s1p0_0_w1s1p0_0_w1s1p0_0_w1s1p0_0 h_S_

/-- The features averaged over windows of one place. -/
noncomputable def meanOne (x : FVec Ideal S2x8x256x1024 .f32) : FVec Ideal S2x8x256x1024 .f32 :=
  shapeCast _ (Host.divf (sumOne (grid x)) (broadcastInDim S16x16x16x1024 ![0, 1, 2, 3] bcast_S1x16x16x1_S16x16x16x1024_0_1_2_3 (sizeOne ones))) shapeCasts_S16x16x16x1024_S2x8x256x1024

/-- Averages over windows of nine places. -/
noncomputable def sumNine (g : FVec Ideal S16x16x16x1024 .f32) : FVec Ideal S16x16x16x1024 .f32 :=
  Host.reduceWindowAdd ![1, 3, 3, 1] ![1, 1, 1, 1] ![0, 1, 1, 0] ![0, 1, 1, 0] g (broadcastInDim S_ ![] bcast_S_S_ (constant S_ .f32 0x00000000#32)) reduceWindows_S16x16x16x1024_S16x16x16x1024_w1s1p0_0_w3s1p1_1_w3s1p1_1_w1s1p0_0 h_S_

/-- The window sums of three by three places. -/
noncomputable def sizeNine (g : FVec Ideal S1x16x16x1 .f32) : FVec Ideal S1x16x16x1 .f32 :=
  Host.reduceWindowAdd ![1, 3, 3, 1] ![1, 1, 1, 1] ![0, 1, 1, 0] ![0, 1, 1, 0] g (broadcastInDim S_ ![] bcast_S_S_ (constant S_ .f32 0x00000000#32)) reduceWindows_S1x16x16x1_S1x16x16x1_w1s1p0_0_w3s1p1_1_w3s1p1_1_w1s1p0_0 h_S_

/-- The features averaged over windows of three by three places. -/
noncomputable def meanNine (x : FVec Ideal S2x8x256x1024 .f32) : FVec Ideal S2x8x256x1024 .f32 :=
  shapeCast _ (Host.divf (sumNine (grid x)) (broadcastInDim S16x16x16x1024 ![0, 1, 2, 3] bcast_S1x16x16x1_S16x16x16x1024_0_1_2_3 (sizeNine ones))) shapeCasts_S16x16x16x1024_S2x8x256x1024

/-- The first pooling, through the named steps. -/
theorem v14_eq : res_main_v14 V0 = meanOne (feats V0) := rfl

/-- The second pooling, through the named steps. -/
theorem v55_eq : res_main_v55 V0 = meanNine (feats V0) := rfl

/-- An average over one place is the feature itself. -/
theorem meanOne_at (x : FVec Ideal S2x8x256x1024 .f32) (l : Fin 2) (b : Fin 8) (p : Fin 256) (k : Fin 1024) :
    (meanOne x (ix4 l b p k) : EReal) = x (ix4 l b p k) := by
  have e : (meanOne x (ix4 l b p k) : EReal) = Ideal.div (sumOne (grid x) (ix4 ⟨l.val * 8 + b.val, by omega⟩ ⟨p.val / 16, by omega⟩ ⟨p.val % 16, by omega⟩ k))
      (sizeOne ones (ix4 0 ⟨p.val / 16, by omega⟩ ⟨p.val % 16, by omega⟩ 0)) := by
    pointwise [meanOne]
  have e1 : ∀ (a i j : Fin 16) (d : Fin 1024), (sumOne (grid x) (ix4 a i j d) : EReal) = grid x (ix4 a i j d) := fun a i j d => one_at (grid x) _ (reads_zero _) reduceWindows_S16x16x16x1024_S16x16x16x1024_w1s1p0_0_w1s1p0_0_w1s1p0_0_w1s1p0_0 a i j d
  have e2 : ∀ i j : Fin 16, (sizeOne ones (ix4 0 i j 0) : EReal) = ones (ix4 0 i j 0) := fun i j => one_at ones _ (reads_zero _) reduceWindows_S1x16x16x1_S1x16x16x1_w1s1p0_0_w1s1p0_0_w1s1p0_0_w1s1p0_0 0 i j 0
  have h : (⟨p.val / 16 * 16 + p.val % 16, by omega⟩ : Fin 256) = p := Fin.ext (by show p.val / 16 * 16 + p.val % 16 = p.val; omega)
  rw [e, e1, e2, ones_at, grid_at x l b ⟨p.val / 16, by omega⟩ ⟨p.val % 16, by omega⟩ k]
  refine (Ideal.div_coe (y := 1) one_ne_zero _).trans ?_
  show (x (ix4 l b ⟨p.val / 16 * 16 + p.val % 16, _⟩ k) : EReal) * _ = _
  rw [h, div_one, EReal.coe_one, mul_one]

/-- A sum over the tokens is a sum over the rows and the columns of their grid. -/
theorem grid_sum (f : Fin 256 → EReal) : (∑ q, f q) = ∑ y : Fin 16, ∑ z : Fin 16, f ⟨y.val * 16 + z.val, by omega⟩ := by
  rw [← (finProdFinEquiv (m := 16) (n := 16)).sum_comp, Fintype.sum_prod_type]
  refine Finset.sum_congr rfl fun y _ => Finset.sum_congr rfl fun z _ => congrArg f (Fin.ext ?_)
  show z.val + 16 * y.val = y.val * 16 + z.val
  omega

/-- An average over three by three places is a row of the pooling table times the features. -/
theorem meanNine_at (x : FVec Ideal S2x8x256x1024 .f32) (l : Fin 2) (b : Fin 8) (p : Fin 256) (k : Fin 1024) :
    (meanNine x (ix4 l b p k) : EReal) = ∑ q : Fin 256, poolTab p q * x (ix4 l b q k) := by
  have e : (meanNine x (ix4 l b p k) : EReal) = Ideal.div (sumNine (grid x) (ix4 ⟨l.val * 8 + b.val, by omega⟩ ⟨p.val / 16, by omega⟩ ⟨p.val % 16, by omega⟩ k))
      (sizeNine ones (ix4 0 ⟨p.val / 16, by omega⟩ ⟨p.val % 16, by omega⟩ 0)) := by
    pointwise [meanNine]
  have e1 : ∀ (i j : Fin 16), (sumNine (grid x) (ix4 ⟨l.val * 8 + b.val, by omega⟩ i j k) : EReal)
      = ∑ y : Fin 16, ∑ z : Fin 16, if near1 i y ∧ near1 j z then (x (ix4 l b ⟨y.val * 16 + z.val, by omega⟩ k) : EReal) else 0 := fun i j => by
    refine (nine_at (grid x) _ (reads_zero _) reduceWindows_S16x16x16x1024_S16x16x16x1024_w1s1p0_0_w3s1p1_1_w3s1p1_1_w1s1p0_0 _ i j k).trans ?_
    simp only [grid_at]
  have e2 : ∀ i j : Fin 16, (sizeNine ones (ix4 0 i j 0) : EReal) = ((count i j : ℝ) : EReal) := fun i j => by
    refine (nine_at ones _ (reads_zero _) reduceWindows_S1x16x16x1_S1x16x16x1_w1s1p0_0_w3s1p1_1_w3s1p1_1_w1s1p0_0 0 i j 0).trans ?_
    simp only [ones_at]
    exact count_cast i j
  have hn : ∀ i j, (0 : ℝ) < (count i j : ℝ) := fun i j => by exact_mod_cast count_pos i j
  rw [e, e1, e2, ← pool_sum (fun y z => near1 _ y ∧ near1 _ z) (count _ _ : ℝ) (hn _ _), grid_sum]
  refine Finset.sum_congr rfl fun y _ => Finset.sum_congr rfl fun z _ => congrArg₂ (· * ·) ?_ rfl
  have h1 : (⟨(y.val * 16 + z.val) / 16, by omega⟩ : Fin 16) = y := Fin.ext (by show (y.val * 16 + z.val) / 16 = y.val; omega)
  have h2 : (⟨(y.val * 16 + z.val) % 16, by omega⟩ : Fin 16) = z := Fin.ext (by show (y.val * 16 + z.val) % 16 = z.val; omega)
  unfold poolTab
  rw [h1, h2]

/-- The reference's plain features. -/
theorem v14_reads : Reads (res_main_v14 V0) (fun l => feat (tok (refImgs V0)) fun i k => refProjs V0 (ix3 l i k)) := fun l b p k => by
  rw [v14_eq]
  exact (meanOne_at _ l b p k).trans (v4_at V0 l b p k)

/-- The reference's pooled features. -/
theorem v55_reads : Reads (res_main_v55 V0) (fun l => pool poolTab (feat (tok (refImgs V0)) fun i k => refProjs V0 (ix3 l i k))) := fun l b p k => by
  rw [v55_eq]
  refine (meanNine_at _ l b p k).trans ?_
  obtain ⟨h1, h2⟩ := tokens_split b p
  have t : tokOf (rowOf b p) = p := Fin.ext h2
  have i : imgOf (rowOf b p) = b := Fin.ext h1
  show _ = ∑ q : Fin 256, poolTab (tokOf (rowOf b p)) q * _
  rw [t, i]
  exact Finset.sum_congr rfl fun q _ => congrArg (poolTab p q * ·) (v4_at V0 l b q k)

/-- The tokens' scores, as the program's first part has them. -/
theorem ref_patch (b : Fin 8) (p : Fin 256) :
    (patchVec (meanVec (sortVec (maskVec (leastVec (res_main_v14 V0) (res_main_v16 V0))))) (meanVec (sortVec (maskVec (leastVec (res_main_v55 V0) (res_main_v57 V0))))) (ix2 b p) : EReal)
      = patch (refImgs V0) (refProjs V0) b p :=
  patch_share (v14_reads V0) (v55_reads V0) b p

/-! ## The resize -/

/-- The step is 1/14. -/
theorem scale_at : (scale V0 ix0 : EReal) = ((1 / 14 : ℝ) : EReal) := by
  have e : (scale V0 ix0 : EReal) = Ideal.div 1 (Ideal.ofBits .f32 0x41600000#32) := by
    pointwise [scale, res_main_v97, res_main_v91]
  rw [e, zoom_bits, Ideal.div_coe (by norm_num), one_mul]

/-- The place sampled for row `i`. -/
theorem spots_at (i : Fin 224) : (spots V0 (ix1 i) : EReal) = ((place i : ℝ) : EReal) := by
  have e : (spots V0 (ix1 i) : EReal) = ((FloatOps.sitofp (F := Ideal) .f32 (BitVec.ofNat 32 i.val) : EReal) + Ideal.ofBits .f32 0x3F000000#32) * scale V0 ix0
      - 0 * scale V0 ix0 - Ideal.ofBits .f32 0x3F000000#32 := by
    pointwise [spots, res_main_v108, res_main_v92]
    rfl
  rw [e, scale_at, int_word _ (by omega), half_bits, zero_mul, sub_zero, ← EReal.coe_add, ← EReal.coe_mul, ← EReal.coe_sub]
  have a : ((i.val : ℝ) + 1 / 2) * (1 / 14) - 1 / 2 = place i := by unfold place; ring
  rw [a]

/-- The hat weight of a place for row `i`. -/
theorem hats_at (u : Fin 16) (i : Fin 224) : (hats V0 (ix2 u i) : EReal) = ((hatR i u : ℝ) : EReal) := by
  have e : (hats V0 (ix2 u i) : EReal) = max 0 (1 - FloatOps.absf (F := Ideal) (φ := .f32) (Ideal.div (FloatOps.absf (F := Ideal) (φ := .f32)
      ((spots V0 (ix1 i) : EReal) - FloatOps.sitofp (F := Ideal) .f32 (BitVec.ofNat 32 u.val))) (max (scale V0 ix0) 1))) := by
    pointwise [hats, res_main_v122]
    rfl
  have m : max ((1 / 14 : ℝ) : EReal) 1 = ((1 : ℝ) : EReal) := by
    rw [← EReal.coe_one, coe_max]; norm_num
  rw [e, scale_at, spots_at, m, int_word _ (by omega), ← EReal.coe_sub, absf_coe, Ideal.div_coe one_ne_zero, ← EReal.coe_mul, absf_coe,
    ← EReal.coe_one, ← EReal.coe_sub, ← EReal.coe_zero, coe_max]
  have a : |(|place i - (u.val : ℝ)| * (1 / 1))| = |(2 * (i.val : ℝ) - 13) / 28 - u.val| := by
    rw [div_one, mul_one, abs_abs]; rfl
  rw [a]; rfl

/-- The total of the hat weights of row `i`. -/
theorem totals_at (z : Fin 1) (i : Fin 224) : (totals V0 (ix2 z i) : EReal) = ((∑ u : Fin 16, hatR i u : ℝ) : EReal) := by
  have e : (totals V0 (ix2 z i) : EReal) = ∑ u : Fin 16, hats V0 (ix2 u i) := by
    pointwise [totals, res_main_v124]
    rfl
  rw [e, ← coe_finsum]
  exact Finset.sum_congr rfl fun u _ => hats_at V0 u i

/-- The weights of the resize are the program's. -/
theorem ref_weight (u : Fin 16) (i : Fin 224) : (weightVec (spots V0) (hats V0) (totals V0) (ix2 u i) : EReal) = resTab i u := by
  have t := total_ge i
  rw [weight_at, spots_at, totals_at, hats_at, neg_half_bits, last_bits, absf_coe, abs_of_nonneg (by linarith)]
  rw [decide_eq_true (EReal.coe_le_coe_iff.mpr (place_ge i)), decide_eq_true (EReal.coe_le_coe_iff.mpr (place_le i)),
    if_pos (lt_of_le_of_lt tiny_bits (EReal.coe_lt_coe_iff.mpr (by linarith))), if_pos (by
      rw [← EReal.coe_zero]
      exact fun h => by have := EReal.coe_injective h; linarith)]
  rfl

/-! ## The results -/

/-- The reference's maps. -/
noncomputable def refMaps : FVec Ideal S8x224x224 .f32 :=
  colsVec (res_main_v199 V0) (weightVec (res_main_v161 V0) (res_main_v175 V0) (res_main_v177 V0))

/-- An entry of the reference's maps, from the arguments. -/
theorem refMaps_at (b : Fin 8) (i j : Fin 224) : (refMaps V0 (ix3 b i j) : EReal)
    = resized (fun u v => patch (refImgs V0) (refProjs V0) b ⟨u.val * 16 + v.val, by omega⟩) resTab i j := by
  have hw : weightVec (res_main_v161 V0) (res_main_v175 V0) (res_main_v177 V0) = weightVec (spots V0) (hats V0) (totals V0) := rfl
  rw [refMaps, hw, cols_at, v199_eq, resized]
  refine Finset.sum_congr rfl fun v _ => congrArg₂ (· * ·) ?_ (ref_weight V0 v j)
  rw [rows_at]
  exact Finset.sum_congr rfl fun u _ => congrArg₂ (· * ·) (ref_weight V0 u i) (ref_patch V0 b _)

/-- A score of the reference, from the arguments. -/
theorem refTops_at (b : Fin 8) : (topVec (refMaps V0) (ix1 b) : EReal)
    = peak (fun u v => patch (refImgs V0) (refProjs V0) b ⟨u.val * 16 + v.val, by omega⟩) resTab := by
  rw [top_at, peak]
  exact Finset.fold_congr fun x _ => refMaps_at V0 b x.1 x.2

end Cert.ReferenceIdeal.Value
-- ==== Proof.Algebraic.lean ====
module

public import proofs.«01_k».proof.Defs
public import proofs.«01_k».proof.Proof.RefVal

@[expose] public section

/-!
# The program's results are the reference's

Both programs return the maps `resized` of the tokens' scores `patch`, and the maps' greatest entries `peak`, as functions
of the arguments alone.
-/

namespace Cert.Proof

open Idealize.ShloMosaic Idealize.SL.Sem
open Cert.KernelIdeal.Run (W7 imgs projs resized peak patch resTab maps_out scores_out run_main mem_uc W7_main_arg0 W7_main_arg1)
open Cert.ReferenceIdeal.Value (refMaps refMaps_at refTops_at topVec refImgs refProjs)
open Idealize.ShloMosaic.StableHlo (launchContents)
open Cert.KernelIdeal (S8 S8x224x224)

section
variable (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
include h0 h1

/-- From the same arguments the maps are the same. -/
theorem maps_same : (refMaps (launchContents m' c) : S8x224x224.Idx → EReal) = (W7 m g c (Proc.devRef .tc Cert.KernelIdeal.main_v51_0) : S8x224x224.Idx → EReal) := by
  have e0 : refImgs (launchContents m' c) = imgs m c := h0
  have e1 : refProjs (launchContents m' c) = projs m c := h1
  rw [maps_out]
  funext i
  refine (congrArg (refMaps (launchContents m' c)) (eq_ix3 (n0 := 8) (n1 := 224) (n2 := 224) i)).trans ((refMaps_at (launchContents m' c) (i 0) (i 1) (i 2)).trans ?_)
  rw [e0, e1]

/-- From the same arguments the image scores are the same. -/
theorem tops_same : (topVec (refMaps (launchContents m' c)) : S8.Idx → EReal) = (W7 m g c (Proc.devRef .tc Cert.KernelIdeal.main_v52) : S8.Idx → EReal) := by
  have e0 : refImgs (launchContents m' c) = imgs m c := h0
  have e1 : refProjs (launchContents m' c) = projs m c := h1
  rw [scores_out]
  funext i
  refine (congrArg (topVec (refMaps (launchContents m' c))) (eq_ix1 (n0 := 8) i)).trans ((refTops_at (launchContents m' c) (i 0)).trans ?_)
  rw [e0, e1]

end

/-- Over the extended reals the program and the reference both run, return the same results and keep their arguments. -/
theorem algebraic : Cert.algebraic_KernelIdeal_ReferenceIdeal := fun m g m' g' _ hm =>
  ⟨fun c => W7 m g c (Proc.devRef .tc Cert.KernelIdeal.main_v52), fun c => W7 m g c (Proc.devRef .tc Cert.KernelIdeal.main_v51_0),
    (θ_run Cert.KernelIdeal.defs _ _).mono
      (fun r h c => ⟨h.1 c _ (mem_uc Cert.KernelIdeal.main_v52 (by decide)), h.1 c _ (mem_uc Cert.KernelIdeal.main_v51_0 (by decide)),
        (h.1 c _ (mem_uc Cert.KernelIdeal.main_arg0 (by decide))).trans (W7_main_arg0 m g c), (h.1 c _ (mem_uc Cert.KernelIdeal.main_arg1 (by decide))).trans (W7_main_arg1 m g c)⟩)
      (run_main m g),
    (θ_run Cert.ReferenceIdeal.defs _ _).mono
      (fun r h c => ⟨(h c).1.trans (tops_same m g m' c (hm c).1 (hm c).2), (h c).2.1.trans (maps_same m g m' c (hm c).1 (hm c).2), (h c).2.2.1, (h c).2.2.2⟩)
      (Cert.ReferenceIdeal.Value.run (F := Ideal) m' g')⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KRun
public import proofs.«01_k».proof.Proof.IRun
public import proofs.«01_k».proof.Proof.Algebraic
public import Idealize.ShloMosaic.Adequacy
public import Idealize.ShloMosaic.Init

/-! The claim: the frames of the three programs, the named constant, and the equality of the results. -/

@[expose] public section

noncomputable section

namespace Cert.Proof

open Idealize.ShloMosaic Idealize.SL.Sem Cert.Kernel

/-- The reference runs to the end, keeps its arguments and has no semaphore. -/
theorem quiescent_reference : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, quiescent_reference,
  IdealRules.named_const.statement _ _ _ _ _ rfl, algebraic⟩

end Cert.Proof

end
